-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_bn" .f32 0x3F7FFFAC#32 (((Real.sqrt (2097173 / 2097152))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S2x320000 : Shape := ⟨2, ![2, 320000]⟩
abbrev S128x512 : Shape := ⟨2, ![128, 512]⟩
abbrev S4x128 : Shape := ⟨2, ![4, 128]⟩
abbrev S128 : Shape := ⟨1, ![128]⟩
abbrev S128x128 : Shape := ⟨2, ![128, 128]⟩
abbrev S1x320000 : Shape := ⟨2, ![1, 320000]⟩
abbrev S320000 : Shape := ⟨1, ![320000]⟩
abbrev S10000x512 : Shape := ⟨2, ![10000, 512]⟩
abbrev S10000x16 : Shape := ⟨2, ![10000, 16]⟩
abbrev S1000x128 : Shape := ⟨2, ![1000, 128]⟩
abbrev S1000x512 : Shape := ⟨2, ![1000, 512]⟩
abbrev S1000x16 : Shape := ⟨2, ![1000, 16]⟩
abbrev S1000x4x128 : Shape := ⟨3, ![1000, 4, 128]⟩
abbrev S1x4x128 : Shape := ⟨3, ![1, 4, 128]⟩
abbrev S1000x4 : Shape := ⟨2, ![1000, 4]⟩
abbrev S1000x12 : Shape := ⟨2, ![1000, 12]⟩
abbrev S_ : Shape := ⟨0, ![]⟩
abbrev S320000x1 : Shape := ⟨2, ![320000, 1]⟩
abbrev S320000x2 : Shape := ⟨2, ![320000, 2]⟩
abbrev S320000x4 : Shape := ⟨2, ![320000, 4]⟩
abbrev S10000x4 : Shape := ⟨2, ![10000, 4]⟩
abbrev S10000x4x128 : Shape := ⟨3, ![10000, 4, 128]⟩
abbrev S320000x4x128 : Shape := ⟨3, ![320000, 4, 128]⟩
abbrev S320000x128 : Shape := ⟨2, ![320000, 128]⟩
abbrev S1x128 : Shape := ⟨2, ![1, 128]⟩

abbrev nBuf : Space → Nat
  | .hbm => 159
  | .vmem => 42
  | .smem => 0
  | _ => 0

abbrev hbmTy0_0 (i : Nat) : BufTy := match i % 128 with
  | 0 => ⟨S10000x128, .f32⟩
  | 1 => ⟨S2x320000, .i32⟩
  | 2 => ⟨S128x512, .f32⟩
  | 3 => ⟨S4x128, .f32⟩
  | 4 => ⟨S4x128, .f32⟩
  | 5 => ⟨S128, .f32⟩
  | 6 => ⟨S128, .f32⟩
  | 7 => ⟨S128, .f32⟩
  | 8 => ⟨S128x512, .f32⟩
  | 9 => ⟨S4x128, .f32⟩
  | 10 => ⟨S4x128, .f32⟩
  | 11 => ⟨S128, .f32⟩
  | 12 => ⟨S128, .f32⟩
  | 13 => ⟨S128, .f32⟩
  | 14 => ⟨S128x128, .f32⟩
  | 15 => ⟨S128, .f32⟩
  | 16 => ⟨S1x320000, .i32⟩
  | 17 => ⟨S320000, .i32⟩
  | 18 => ⟨S1x320000, .i32⟩
  | 19 => ⟨S320000, .i32⟩
  | 20 => ⟨S10000x512, .f32⟩
  | 21 => ⟨S10000x16, .f32⟩
  | 22 => ⟨S10000x16, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S_, .i32⟩
  | 32 => ⟨S320000x1, .i32⟩
  | 33 => ⟨S320000x2, .i32⟩
  | 34 => ⟨S320000x4, .f32⟩
  | 35 => ⟨S_, .i32⟩
  | 36 => ⟨S320000, .i32⟩
  | 37 => ⟨S320000, .i1⟩
  | 38 => ⟨S_, .i32⟩
  | 39 => ⟨S320000, .i32⟩
  | 40 => ⟨S320000, .i32⟩
  | 41 => ⟨S320000, .i32⟩
  | 42 => ⟨S320000x1, .i32⟩
  | 43 => ⟨S_, .i32⟩
  | 44 => ⟨S320000x1, .i32⟩
  | 45 => ⟨S320000x2, .i32⟩
  | 46 => ⟨S320000x4, .f32⟩
  | 47 => ⟨S320000x4, .f32⟩
  | 48 => ⟨S_, .f32⟩
  | 49 => ⟨S320000x4, .f32⟩
  | 50 => ⟨S320000x4, .i1⟩
  | 51 => ⟨S_, .f32⟩
  | 52 => ⟨S320000x4, .f32⟩
  | 53 => ⟨S320000x4, .f32⟩
  | 54 => ⟨S320000x4, .f32⟩
  | 55 => ⟨S320000x4, .f32⟩
  | 56 => ⟨S_, .f32⟩
  | 57 => ⟨S10000x4, .f32⟩
  | 58 => ⟨S320000x1, .i32⟩
  | 59 => ⟨S10000x4, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x4, .f32⟩
  | 69 => ⟨S_, .f32⟩
  | 70 => ⟨S320000x4, .f32⟩
  | 71 => ⟨S320000x4, .f32⟩
  | 72 => ⟨S320000x4, .f32⟩
  | 73 => ⟨S10000x4x128, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000x4x128, .f32⟩
  | 83 => ⟨S320000x128, .f32⟩
  | 84 => ⟨S_, .f32⟩
  | 85 => ⟨S10000x128, .f32⟩
  | 86 => ⟨S320000x1, .i32⟩
  | 87 => ⟨S10000x128, .f32⟩
  | 88 => ⟨S10000x128, .f32⟩
  | 89 => ⟨S10000x512, .f32⟩
  | 90 => ⟨S10000x16, .f32⟩
  | 91 => ⟨S10000x16, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S_, .i32⟩
  | 101 => ⟨S320000x1, .i32⟩
  | 102 => ⟨S320000x2, .i32⟩
  | 103 => ⟨S320000x4, .f32⟩
  | 104 => ⟨S_, .i32⟩
  | 105 => ⟨S320000, .i32⟩
  | 106 => ⟨S320000, .i1⟩
  | 107 => ⟨S_, .i32⟩
  | 108 => ⟨S320000, .i32⟩
  | 109 => ⟨S320000, .i32⟩
  | 110 => ⟨S320000, .i32⟩
  | 111 => ⟨S320000x1, .i32⟩
  | 112 => ⟨S_, .i32⟩
  | 113 => ⟨S320000x1, .i32⟩
  | 114 => ⟨S320000x2, .i32⟩
  | 115 => ⟨S320000x4, .f32⟩
  | 116 => ⟨S320000x4, .f32⟩
  | 117 => ⟨S_, .f32⟩
  | 118 => ⟨S320000x4, .f32⟩
  | 119 => ⟨S320000x4, .i1⟩
  | 120 => ⟨S_, .f32⟩
  | 121 => ⟨S320000x4, .f32⟩
  | 122 => ⟨S320000x4, .f32⟩
  | 123 => ⟨S320000x4, .f32⟩
  | 124 => ⟨S320000x4, .f32⟩
  | 125 => ⟨S_, .f32⟩
  | 126 => ⟨S10000x4, .f32⟩
  | 127 => ⟨S320000x1, .i32⟩
  | _ => ⟨S10000x128, .f32⟩

abbrev hbmTy0_1 (i : Nat) : BufTy := match i % 128 with
  | 0 => ⟨S10000x4, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x4, .f32⟩
  | 10 => ⟨S_, .f32⟩
  | 11 => ⟨S320000x4, .f32⟩
  | 12 => ⟨S320000x4, .f32⟩
  | 13 => ⟨S320000x4, .f32⟩
  | 14 => ⟨S10000x4x128, .f32⟩
  | 15 => ⟨S_, .i32⟩
  | 16 => ⟨S320000, .i32⟩
  | 17 => ⟨S320000, .i1⟩
  | 18 => ⟨S_, .i32⟩
  | 19 => ⟨S320000, .i32⟩
  | 20 => ⟨S320000, .i32⟩
  | 21 => ⟨S320000, .i32⟩
  | 22 => ⟨S320000x1, .i32⟩
  | 23 => ⟨S320000x4x128, .f32⟩
  | 24 => ⟨S320000x128, .f32⟩
  | 25 => ⟨S_, .f32⟩
  | 26 => ⟨S10000x128, .f32⟩
  | 27 => ⟨S320000x1, .i32⟩
  | 28 => ⟨S10000x128, .f32⟩
  | 29 => ⟨S10000x128, .f32⟩
  | 30 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x512, .f32⟩
  | .local _ .vmem, ⟨3, _⟩ => ⟨S4x128, .f32⟩
  | .local _ .vmem, ⟨4, _⟩ => ⟨S4x128, .f32⟩
  | .local _ .vmem, ⟨5, _⟩ => ⟨S1000x512, .f32⟩
  | .local _ .vmem, ⟨6, _⟩ => ⟨S1000x512, .f32⟩
  | .local _ .vmem, ⟨7, _⟩ => ⟨S1000x16, .f32⟩
  | .local _ .vmem, ⟨8, _⟩ => ⟨S1000x16, .f32⟩
  | .local _ .vmem, ⟨9, _⟩ => ⟨S1000x16, .f32⟩
  | .local _ .vmem, ⟨10, _⟩ => ⟨S1000x16, .f32⟩
  | .local _ .vmem, ⟨11, _⟩ => ⟨S1000x128, .f32⟩
  | .local _ .vmem, ⟨12, _⟩ => ⟨S1000x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S1000x128, .f32⟩
  | .local _ .vmem, ⟨17, _⟩ => ⟨S1000x128, .f32⟩
  | .local _ .vmem, ⟨18, _⟩ => ⟨S1000x128, .f32⟩
  | .local _ .vmem, ⟨19, _⟩ => ⟨S1000x128, .f32⟩
  | .local _ .vmem, ⟨20, _⟩ => ⟨S128x512, .f32⟩
  | .local _ .vmem, ⟨21, _⟩ => ⟨S4x128, .f32⟩
  | .local _ .vmem, ⟨22, _⟩ => ⟨S4x128, .f32⟩
  | .local _ .vmem, ⟨23, _⟩ => ⟨S1000x512, .f32⟩
  | .local _ .vmem, ⟨24, _⟩ => ⟨S1000x512, .f32⟩
  | .local _ .vmem, ⟨25, _⟩ => ⟨S1000x16, .f32⟩
  | .local _ .vmem, ⟨26, _⟩ => ⟨S1000x16, .f32⟩
  | .local _ .vmem, ⟨27, _⟩ => ⟨S1000x16, .f32⟩
  | .local _ .vmem, ⟨28, _⟩ => ⟨S1000x16, .f32⟩
  | .local _ .vmem, ⟨29, _⟩ => ⟨S1000x128, .f32⟩
  | .local _ .vmem, ⟨30, _⟩ => ⟨S1000x128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S128x128, .f32⟩
  | .local _ .vmem, ⟨39, _⟩ => ⟨S128, .f32⟩
  | .local _ .vmem, ⟨40, _⟩ => ⟨S1000x128, .f32⟩
  | .local _ .vmem, ⟨41, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4_0 : Ref sig .tc := ⟨.hbm, 20, rfl⟩
abbrev main_v4_1 : Ref sig .tc := ⟨.hbm, 21, rfl⟩
abbrev main_v4_2 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_10 : Ref sig .tc := ⟨.hbm, 74, rfl⟩
abbrev main_v44 : Ref sig .tc := ⟨.hbm, 75, rfl⟩
abbrev main_v45 : Ref sig .tc := ⟨.hbm, 76, rfl⟩
abbrev main_c_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56_0 : Ref sig .tc := ⟨.hbm, 89, rfl⟩
abbrev main_v56_1 : Ref sig .tc := ⟨.hbm, 90, rfl⟩
abbrev main_v56_2 : Ref sig .tc := ⟨.hbm, 91, rfl⟩
abbrev main_c_13 : Ref sig .tc := ⟨.hbm, 92, rfl⟩
abbrev main_v57 : Ref sig .tc := ⟨.hbm, 93, rfl⟩
abbrev main_v58 : Ref sig .tc := ⟨.hbm, 94, rfl⟩
abbrev main_c_14 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_15 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_18 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_19 : Ref sig .tc := ⟨.hbm, 117, rfl⟩
abbrev main_v76 : Ref sig .tc := ⟨.hbm, 118, rfl⟩
abbrev main_v77 : Ref sig .tc := ⟨.hbm, 119, rfl⟩
abbrev main_cst_20 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_cst_21 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_c_22 : Ref sig .tc := ⟨.hbm, 129, rfl⟩
abbrev main_v85 : Ref sig .tc := ⟨.hbm, 130, rfl⟩
abbrev main_v86 : Ref sig .tc := ⟨.hbm, 131, rfl⟩
abbrev main_c_23 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_25 : Ref sig .tc := ⟨.hbm, 143, rfl⟩
abbrev main_v96 : Ref sig .tc := ⟨.hbm, 144, rfl⟩
abbrev main_v97 : Ref sig .tc := ⟨.hbm, 145, rfl⟩
abbrev main_c_26 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_27 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== KernelIdeal.lean ====
variable {F : FTy → Type} [FloatOps F] [Named F]
def κ : String → Option EReal := fun
  | "inv_bn" => some (((Real.sqrt (2097173 / 2097152))⁻¹ : ℝ) : EReal)
  | _ => none
-- ==== ReferenceIdeal.lean ====
abbrev S10000x128 : Shape := ⟨2, ![10000, 128]⟩
abbrev S2x320000 : Shape := ⟨2, ![2, 320000]⟩
abbrev S128x512 : Shape := ⟨2, ![128, 512]⟩
abbrev S4x128 : Shape := ⟨2, ![4, 128]⟩
abbrev S128 : Shape := ⟨1, ![128]⟩
abbrev S128x128 : Shape := ⟨2, ![128, 128]⟩
abbrev S10000x512 : Shape := ⟨2, ![10000, 512]⟩
abbrev S10000x4x128 : Shape := ⟨3, ![10000, 4, 128]⟩
abbrev S1x4x128 : Shape := ⟨3, ![1, 4, 128]⟩
abbrev S_ : Shape := ⟨0, ![]⟩
abbrev S10000x4 : Shape := ⟨2, ![10000, 4]⟩
abbrev S1x320000 : Shape := ⟨2, ![1, 320000]⟩
abbrev S320000 : Shape := ⟨1, ![320000]⟩
abbrev S320000x1 : Shape := ⟨2, ![320000, 1]⟩
abbrev S320000x4 : Shape := ⟨2, ![320000, 4]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x4 : Shape := ⟨3, ![1, 320000, 4]⟩
abbrev S10000x320000x4 : Shape := ⟨3, ![10000, 320000, 4]⟩
abbrev S320000x4x128 : Shape := ⟨3, ![320000, 4, 128]⟩
abbrev S320000x4x1 : Shape := ⟨3, ![320000, 4, 1]⟩
abbrev S1x128 : Shape := ⟨2, ![1, 128]⟩

abbrev nBuf : Space → Nat
  | .hbm => 310
  | .vmem => 0
  | .smem => 0
  | _ => 0

abbrev hbmTy0_0 (i : Nat) : BufTy := match i % 128 with
  | 0 => ⟨S10000x128, .f32⟩
  | 1 => ⟨S2x320000, .i32⟩
  | 2 => ⟨S128x512, .f32⟩
  | 3 => ⟨S4x128, .f32⟩
  | 4 => ⟨S4x128, .f32⟩
  | 5 => ⟨S128, .f32⟩
  | 6 => ⟨S128, .f32⟩
  | 7 => ⟨S128, .f32⟩
  | 8 => ⟨S128x512, .f32⟩
  | 9 => ⟨S4x128, .f32⟩
  | 10 => ⟨S4x128, .f32⟩
  | 11 => ⟨S128, .f32⟩
  | 12 => ⟨S128, .f32⟩
  | 13 => ⟨S128, .f32⟩
  | 14 => ⟨S128x128, .f32⟩
  | 15 => ⟨S128, .f32⟩
  | 16 => ⟨S10000x512, .f32⟩
  | 17 => ⟨S10000x4x128, .f32⟩
  | 18 => ⟨S1x4x128, .f32⟩
  | 19 => ⟨S10000x4x128, .f32⟩
  | 20 => ⟨S10000x4x128, .f32⟩
  | 21 => ⟨S_, .f32⟩
  | 22 => ⟨S10000x4, .f32⟩
  | 23 => ⟨S1x4x128, .f32⟩
  | 24 => ⟨S10000x4x128, .f32⟩
  | 25 => ⟨S10000x4x128, .f32⟩
  | 26 => ⟨S_, .f32⟩
  | 27 => ⟨S10000x4, .f32⟩
  | 28 => ⟨S1x320000, .i32⟩
  | 29 => ⟨S320000, .i32⟩
  | 30 => ⟨S1x320000, .i32⟩
  | 31 => ⟨S320000, .i32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x4, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x4, .f32⟩
  | 50 => ⟨S320000x4, .f32⟩
  | 51 => ⟨S_, .f32⟩
  | 52 => ⟨S_, .f32⟩
  | 53 => ⟨S320000x4, .f32⟩
  | 54 => ⟨S320000x4, .i1⟩
  | 55 => ⟨S_, .f32⟩
  | 56 => ⟨S320000x4, .f32⟩
  | 57 => ⟨S320000x4, .f32⟩
  | 58 => ⟨S320000x4, .f32⟩
  | 59 => ⟨S1x320000, .i32⟩
  | 60 => ⟨S10000, .i32⟩
  | 61 => ⟨S10000x1, .i32⟩
  | 62 => ⟨S10000x320000, .i32⟩
  | 63 => ⟨S10000x320000, .i32⟩
  | 64 => ⟨S10000x320000, .i1⟩
  | 65 => ⟨S10000x320000x1, .i1⟩
  | 66 => ⟨S1x320000x4, .f32⟩
  | 67 => ⟨S_, .f32⟩
  | 68 => ⟨S_, .f32⟩
  | 69 => ⟨S10000x320000x4, .i1⟩
  | 70 => ⟨S10000x320000x4, .f32⟩
  | 71 => ⟨S10000x320000x4, .f32⟩
  | 72 => ⟨S10000x320000x4, .f32⟩
  | 73 => ⟨S_, .f32⟩
  | 74 => ⟨S10000x4, .f32⟩
  | 75 => ⟨S10000x4, .f32⟩
  | 76 => ⟨S_, .f32⟩
  | 77 => ⟨S10000x4, .f32⟩
  | 78 => ⟨S10000x4, .i1⟩
  | 79 => ⟨S_, .f32⟩
  | 80 => ⟨S_, .f32⟩
  | 81 => ⟨S10000x4, .f32⟩
  | 82 => ⟨S10000x4, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x4, .f32⟩
  | 92 => ⟨S320000x4, .f32⟩
  | 93 => ⟨S320000x4, .f32⟩
  | 94 => ⟨S_, .f32⟩
  | 95 => ⟨S10000x4, .f32⟩
  | 96 => ⟨S320000x1, .i32⟩
  | 97 => ⟨S10000x4, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x4, .f32⟩
  | 107 => ⟨S_, .i32⟩
  | 108 => ⟨S320000, .i32⟩
  | 109 => ⟨S320000, .i1⟩
  | 110 => ⟨S_, .i32⟩
  | 111 => ⟨S320000, .i32⟩
  | 112 => ⟨S320000, .i32⟩
  | 113 => ⟨S320000, .i32⟩
  | 114 => ⟨S320000x1, .i32⟩
  | 115 => ⟨S320000x4, .f32⟩
  | 116 => ⟨S320000x4, .f32⟩
  | 117 => ⟨S320000x4, .f32⟩
  | 118 => ⟨S_, .f32⟩
  | 119 => ⟨S320000x4, .f32⟩
  | 120 => ⟨S320000x4, .f32⟩
  | 121 => ⟨S320000x4, .f32⟩
  | 122 => ⟨S320000x4, .f32⟩
  | 123 => ⟨S_, .i32⟩
  | 124 => ⟨S320000, .i32⟩
  | 125 => ⟨S320000, .i1⟩
  | 126 => ⟨S_, .i32⟩
  | 127 => ⟨S320000, .i32⟩
  | _ => ⟨S10000x128, .f32⟩

abbrev hbmTy0_1 (i : Nat) : BufTy := match i % 128 with
  | 0 => ⟨S320000, .i32⟩
  | 1 => ⟨S320000, .i32⟩
  | 2 => ⟨S320000x1, .i32⟩
  | 3 => ⟨S320000x4x128, .f32⟩
  | 4 => ⟨S320000x4x1, .f32⟩
  | 5 => ⟨S320000x4x128, .f32⟩
  | 6 => ⟨S320000x4x128, .f32⟩
  | 7 => ⟨S_, .f32⟩
  | 8 => ⟨S10000x4x128, .f32⟩
  | 9 => ⟨S320000x1, .i32⟩
  | 10 => ⟨S10000x4x128, .f32⟩
  | 11 => ⟨S_, .f32⟩
  | 12 => ⟨S10000x128, .f32⟩
  | 13 => ⟨S_, .f32⟩
  | 14 => ⟨S10000x128, .f32⟩
  | 15 => ⟨S10000x128, .f32⟩
  | 16 => ⟨S1x128, .f32⟩
  | 17 => ⟨S10000x128, .f32⟩
  | 18 => ⟨S10000x128, .f32⟩
  | 19 => ⟨S_, .f32⟩
  | 20 => ⟨S_, .f32⟩
  | 21 => ⟨S_, .f32⟩
  | 22 => ⟨S10000x128, .f32⟩
  | 23 => ⟨S10000x128, .f32⟩
  | 24 => ⟨S1x128, .f32⟩
  | 25 => ⟨S10000x128, .f32⟩
  | 26 => ⟨S10000x128, .f32⟩
  | 27 => ⟨S1x128, .f32⟩
  | 28 => ⟨S10000x128, .f32⟩
  | 29 => ⟨S10000x128, .f32⟩
  | 30 => ⟨S_, .f32⟩
  | 31 => ⟨S10000x128, .f32⟩
  | 32 => ⟨S10000x128, .f32⟩
  | 33 => ⟨S10000x512, .f32⟩
  | 34 => ⟨S10000x4x128, .f32⟩
  | 35 => ⟨S1x4x128, .f32⟩
  | 36 => ⟨S10000x4x128, .f32⟩
  | 37 => ⟨S10000x4x128, .f32⟩
  | 38 => ⟨S_, .f32⟩
  | 39 => ⟨S10000x4, .f32⟩
  | 40 => ⟨S1x4x128, .f32⟩
  | 41 => ⟨S10000x4x128, .f32⟩
  | 42 => ⟨S10000x4x128, .f32⟩
  | 43 => ⟨S_, .f32⟩
  | 44 => ⟨S10000x4, .f32⟩
  | 45 => ⟨S1x320000, .i32⟩
  | 46 => ⟨S320000, .i32⟩
  | 47 => ⟨S1x320000, .i32⟩
  | 48 => ⟨S320000, .i32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x4, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x4, .f32⟩
  | 67 => ⟨S320000x4, .f32⟩
  | 68 => ⟨S_, .f32⟩
  | 69 => ⟨S_, .f32⟩
  | 70 => ⟨S320000x4, .f32⟩
  | 71 => ⟨S320000x4, .i1⟩
  | 72 => ⟨S_, .f32⟩
  | 73 => ⟨S320000x4, .f32⟩
  | 74 => ⟨S320000x4, .f32⟩
  | 75 => ⟨S320000x4, .f32⟩
  | 76 => ⟨S1x320000, .i32⟩
  | 77 => ⟨S10000, .i32⟩
  | 78 => ⟨S10000x1, .i32⟩
  | 79 => ⟨S10000x320000, .i32⟩
  | 80 => ⟨S10000x320000, .i32⟩
  | 81 => ⟨S10000x320000, .i1⟩
  | 82 => ⟨S10000x320000x1, .i1⟩
  | 83 => ⟨S1x320000x4, .f32⟩
  | 84 => ⟨S_, .f32⟩
  | 85 => ⟨S_, .f32⟩
  | 86 => ⟨S10000x320000x4, .i1⟩
  | 87 => ⟨S10000x320000x4, .f32⟩
  | 88 => ⟨S10000x320000x4, .f32⟩
  | 89 => ⟨S10000x320000x4, .f32⟩
  | 90 => ⟨S_, .f32⟩
  | 91 => ⟨S10000x4, .f32⟩
  | 92 => ⟨S10000x4, .f32⟩
  | 93 => ⟨S_, .f32⟩
  | 94 => ⟨S10000x4, .f32⟩
  | 95 => ⟨S10000x4, .i1⟩
  | 96 => ⟨S_, .f32⟩
  | 97 => ⟨S_, .f32⟩
  | 98 => ⟨S10000x4, .f32⟩
  | 99 => ⟨S10000x4, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x4, .f32⟩
  | 109 => ⟨S320000x4, .f32⟩
  | 110 => ⟨S320000x4, .f32⟩
  | 111 => ⟨S_, .f32⟩
  | 112 => ⟨S10000x4, .f32⟩
  | 113 => ⟨S320000x1, .i32⟩
  | 114 => ⟨S10000x4, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x4, .f32⟩
  | 124 => ⟨S_, .i32⟩
  | 125 => ⟨S320000, .i32⟩
  | 126 => ⟨S320000, .i1⟩
  | 127 => ⟨S_, .i32⟩
  | _ => ⟨S10000x128, .f32⟩

abbrev hbmTy0_2 (i : Nat) : BufTy := match i % 128 with
  | 0 => ⟨S320000, .i32⟩
  | 1 => ⟨S320000, .i32⟩
  | 2 => ⟨S320000, .i32⟩
  | 3 => ⟨S320000x1, .i32⟩
  | 4 => ⟨S320000x4, .f32⟩
  | 5 => ⟨S320000x4, .f32⟩
  | 6 => ⟨S320000x4, .f32⟩
  | 7 => ⟨S_, .f32⟩
  | 8 => ⟨S320000x4, .f32⟩
  | 9 => ⟨S320000x4, .f32⟩
  | 10 => ⟨S320000x4, .f32⟩
  | 11 => ⟨S320000x4, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x4x128, .f32⟩
  | 21 => ⟨S320000x4x1, .f32⟩
  | 22 => ⟨S320000x4x128, .f32⟩
  | 23 => ⟨S320000x4x128, .f32⟩
  | 24 => ⟨S_, .f32⟩
  | 25 => ⟨S10000x4x128, .f32⟩
  | 26 => ⟨S320000x1, .i32⟩
  | 27 => ⟨S10000x4x128, .f32⟩
  | 28 => ⟨S_, .f32⟩
  | 29 => ⟨S10000x128, .f32⟩
  | 30 => ⟨S_, .f32⟩
  | 31 => ⟨S10000x128, .f32⟩
  | 32 => ⟨S10000x128, .f32⟩
  | 33 => ⟨S1x128, .f32⟩
  | 34 => ⟨S10000x128, .f32⟩
  | 35 => ⟨S10000x128, .f32⟩
  | 36 => ⟨S_, .f32⟩
  | 37 => ⟨S_, .f32⟩
  | 38 => ⟨S_, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S_, .f32⟩
  | 48 => ⟨S10000x128, .f32⟩
  | 49 => ⟨S10000x128, .f32⟩
  | 50 => ⟨S10000x128, .f32⟩
  | 51 => ⟨S1x128, .f32⟩
  | 52 => ⟨S10000x128, .f32⟩
  | 53 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_5 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_call2_v0 : Ref sig .tc := ⟨.hbm, 80, rfl⟩
abbrev main_call2_v1 : Ref sig .tc := ⟨.hbm, 81, rfl⟩
abbrev main_v43 : Ref sig .tc := ⟨.hbm, 82, rfl⟩
abbrev main_c_9 : Ref sig .tc := ⟨.hbm, 83, rfl⟩
abbrev main_v44 : Ref sig .tc := ⟨.hbm, 84, rfl⟩
abbrev main_v45 : Ref sig .tc := ⟨.hbm, 85, rfl⟩
abbrev main_c_10 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_11 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_12 : Ref sig .tc := ⟨.hbm, 98, rfl⟩
abbrev main_v56 : Ref sig .tc := ⟨.hbm, 99, rfl⟩
abbrev main_v57 : Ref sig .tc := ⟨.hbm, 100, rfl⟩
abbrev main_c_13 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_14 : Ref sig .tc := ⟨.hbm, 107, rfl⟩
abbrev main_v63 : Ref sig .tc := ⟨.hbm, 108, rfl⟩
abbrev main_v64 : Ref sig .tc := ⟨.hbm, 109, rfl⟩
abbrev main_c_15 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_c_17 : Ref sig .tc := ⟨.hbm, 123, rfl⟩
abbrev main_v76 : Ref sig .tc := ⟨.hbm, 124, rfl⟩
abbrev main_v77 : Ref sig .tc := ⟨.hbm, 125, rfl⟩
abbrev main_c_18 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_19 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_cst_20 : Ref sig .tc := ⟨.hbm, 139, rfl⟩
abbrev main_v89 : Ref sig .tc := ⟨.hbm, 140, rfl⟩
abbrev main_cst_21 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_22 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_call3_cst : Ref sig .tc := ⟨.hbm, 158, rfl⟩
abbrev main_call3_v0 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_23 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_24 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_c_25 : Ref sig .tc := ⟨.hbm, 177, rfl⟩
abbrev main_v120 : Ref sig .tc := ⟨.hbm, 178, rfl⟩
abbrev main_v121 : Ref sig .tc := ⟨.hbm, 179, rfl⟩
abbrev main_c_26 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_c_27 : Ref sig .tc := ⟨.hbm, 186, rfl⟩
abbrev main_v127 : Ref sig .tc := ⟨.hbm, 187, rfl⟩
abbrev main_v128 : Ref sig .tc := ⟨.hbm, 188, rfl⟩
abbrev main_c_28 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_cst_29 : Ref sig .tc := ⟨.hbm, 196, rfl⟩
abbrev main_call4_cst : Ref sig .tc := ⟨.hbm, 197, rfl⟩
abbrev main_call4_v0 : Ref sig .tc := ⟨.hbm, 198, rfl⟩
abbrev main_call4_v1 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_cst_30 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_call5_v3 : Ref sig .tc := ⟨.hbm, 216, rfl⟩
abbrev main_v144 : Ref sig .tc := ⟨.hbm, 217, rfl⟩
abbrev main_cst_31 : Ref sig .tc := ⟨.hbm, 218, rfl⟩
abbrev main_v145 : Ref sig .tc := ⟨.hbm, 219, rfl⟩
abbrev main_v146 : Ref sig .tc := ⟨.hbm, 220, rfl⟩
abbrev main_cst_32 : Ref sig .tc := ⟨.hbm, 221, rfl⟩
abbrev main_v147 : Ref sig .tc := ⟨.hbm, 222, rfl⟩
abbrev main_v148 : Ref sig .tc := ⟨.hbm, 223, rfl⟩
abbrev main_cst_33 : Ref sig .tc := ⟨.hbm, 224, rfl⟩
abbrev main_call6_v0 : Ref sig .tc := ⟨.hbm, 225, rfl⟩
abbrev main_call6_v1 : Ref sig .tc := ⟨.hbm, 226, rfl⟩
abbrev main_v149 : Ref sig .tc := ⟨.hbm, 227, rfl⟩
abbrev main_c_34 : Ref sig .tc := ⟨.hbm, 228, rfl⟩
abbrev main_v150 : Ref sig .tc := ⟨.hbm, 229, rfl⟩
abbrev main_v151 : Ref sig .tc := ⟨.hbm, 230, rfl⟩
abbrev main_c_35 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_cst_36 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_c_37 : Ref sig .tc := ⟨.hbm, 243, rfl⟩
abbrev main_v162 : Ref sig .tc := ⟨.hbm, 244, rfl⟩
abbrev main_v163 : Ref sig .tc := ⟨.hbm, 245, rfl⟩
abbrev main_c_38 : Ref sig .tc := ⟨.hbm, 246, rfl⟩
abbrev main_v164 : Ref sig .tc := ⟨.hbm, 247, rfl⟩
abbrev main_v165 : Ref sig .tc := ⟨.hbm, 248, rfl⟩
abbrev main_v166 : Ref sig .tc := ⟨.hbm, 249, rfl⟩
abbrev main_v167 : Ref sig .tc := ⟨.hbm, 250, rfl⟩
abbrev main_v168 : Ref sig .tc := ⟨.hbm, 251, rfl⟩
abbrev main_c_39 : Ref sig .tc := ⟨.hbm, 252, rfl⟩
abbrev main_v169 : Ref sig .tc := ⟨.hbm, 253, rfl⟩
abbrev main_v170 : Ref sig .tc := ⟨.hbm, 254, rfl⟩
abbrev main_c_40 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_cst_41 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_c_42 : Ref sig .tc := ⟨.hbm, 268, rfl⟩
abbrev main_v182 : Ref sig .tc := ⟨.hbm, 269, rfl⟩
abbrev main_v183 : Ref sig .tc := ⟨.hbm, 270, rfl⟩
abbrev main_c_43 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_cst_44 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_cst_45 : Ref sig .tc := ⟨.hbm, 284, rfl⟩
abbrev main_v195 : Ref sig .tc := ⟨.hbm, 285, rfl⟩
abbrev main_cst_46 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_cst_47 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_call7_cst : Ref sig .tc := ⟨.hbm, 303, rfl⟩
abbrev main_call7_v0 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩

abbrev nD : Nat := 1
abbrev τ : Topo := Topo.v7x

variable {F : FTy → Type} [FloatOps F]
-- ==== Proof.Run.lean ====
/- The kernel's run, with the contents every buffer ends at. -/
module

public import proofs.«01_k».proof.Proof.Gen.KernelIdeal.Frame

@[expose] public section

set_option maxRecDepth 16384

noncomputable section

namespace Cert.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each unscoped buffer at the contents the last boundary names. -/
theorem run : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ => h)

end Cert.Run
-- ==== Proof.Rows.lean ====
/- Row gathers and row scatters read at an index, for any number of rows `N`, edges `E` and row shape.
   A gather reads its row number signed and clamps it into the table; a scatter that adds reads it signed and drops a row
   that lies outside. -/
module

public import Idealize.ShloMosaic.PureOps.Ideal
public import Idealize.ShloMosaic.Lib.Pointwise

@[expose] public section

noncomputable section

namespace Cert.Rows

open Idealize.ShloMosaic

/-- The row of an `N`-row table that a gather takes for the word `w`: `w` read signed, clamped into `[0, N - 1]`. -/
def rowAt (N : Nat) [NeZero N] (w : BitVec 32) : Fin N :=
  ⟨min w.toInt.toNat (N - 1), by have := NeZero.pos N; omega⟩

/-! ## Gathers -/

/-- Dimension numbers of `table[idx]` for a table of rows of `K` entries. -/
abbrev take2 (N K E : Nat) (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- `table[idx]` at edge `e`, entry `k`: the table at the row that `idx[e]` names. -/
theorem take2_at {α : Type} {N K E : Nat} [NeZero N]
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ 32) (e : Fin E) (k : Fin K) :
    Host.gather (take2 N K E wf) x idx (ix2 e k) = x (ix2 (rowAt N (idx (ix2 e 0))) k) := by
  unfold Host.gather
  congr 1
  have hsi : ∀ c, (take2 N K E wf).siIdx (ix2 e k) c = ix2 e 0 := by
    intro c
    obtain rfl : c = (0 : Fin 1) := Subsingleton.elim (α := Fin 1) _ _
    funext b; refine Fin.ext ?_
    match b with
    | ⟨0, _⟩ => rfl
    | ⟨1, _⟩ => rfl
  have hs0 : (take2 N K E wf).start (ix2 e k) idx 0 = (rowAt N (idx (ix2 e 0))).val := by
    unfold GatherDims.start
    refine (dif_pos (show (0 : Fin 2) ∈ ([0] : List (Fin 2)) by decide)).trans ?_
    rw [hsi]
    rfl
  funext a
  refine Fin.ext ?_
  show (take2 N K E wf).start (ix2 e k) idx a + (take2 N K E wf).batchCoord (ix2 e k) a + (take2 N K E wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    exact hs0
  | ⟨1, _⟩ =>
    unfold GatherDims.start
    rw [dif_neg (fun h => by simp at h)]
    rw [Nat.zero_add]
    rfl

/-- Dimension numbers of `table[idx]` for a table of rows of `H × C` entries. -/
abbrev take3 (N H C E : Nat)
    (wf : GatherDims.WF ⟨3, ![N, H, C]⟩ ⟨2, ![E, 1]⟩ ⟨3, ![E, H, C]⟩ [1, 2] [0] [] [0] [] 1 ![1, H, C]) :
    GatherDims ⟨3, ![N, H, C]⟩ ⟨2, ![E, 1]⟩ ⟨3, ![E, H, C]⟩ where
  offsetDims := [1, 2]
  collapsedSliceDims := [0]
  operandBatchingDims := []
  startIndicesBatchingDims := []
  startIndexMap := [0]
  indexVectorDim := 1
  sliceSizes := ![1, H, C]
  wf := wf

/-- `table[idx]` at edge `e`, entry `(h, c)`: the table at the row that `idx[e]` names. -/
theorem take3_at {α : Type} {N H C E : Nat} [NeZero N]
    (wf : GatherDims.WF ⟨3, ![N, H, C]⟩ ⟨2, ![E, 1]⟩ ⟨3, ![E, H, C]⟩ [1, 2] [0] [] [0] [] 1 ![1, H, C])
    (x : (⟨3, ![N, H, C]⟩ : Shape).Idx → α) (idx : IVec ⟨2, ![E, 1]⟩ 32) (e : Fin E) (h : Fin H) (c : Fin C) :
    Host.gather (take3 N H C E wf) x idx (ix3 e h c) = x (ix3 (rowAt N (idx (ix2 e 0))) h c) := by
  unfold Host.gather
  congr 1
  have hsi : ∀ c', (take3 N H C E wf).siIdx (ix3 e h c) c' = ix2 e 0 := by
    intro c'
    obtain rfl : c' = (0 : Fin 1) := Subsingleton.elim (α := Fin 1) _ _
    funext b; refine Fin.ext ?_
    match b with
    | ⟨0, _⟩ => rfl
    | ⟨1, _⟩ => rfl
  have hs0 : (take3 N H C E wf).start (ix3 e h c) idx 0 = (rowAt N (idx (ix2 e 0))).val := by
    unfold GatherDims.start
    refine (dif_pos (show (0 : Fin 3) ∈ ([0] : List (Fin 3)) by decide)).trans ?_
    rw [hsi]
    rfl
  funext a
  refine Fin.ext ?_
  show (take3 N H C E wf).start (ix3 e h c) idx a + (take3 N H C E wf).batchCoord (ix3 e h c) a + (take3 N H C E wf).offCoord (ix3 e h c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    exact hs0
  | ⟨1, _⟩ =>
    unfold GatherDims.start
    rw [dif_neg (fun h => by simp at h), Nat.zero_add]
    rfl
  | ⟨2, _⟩ =>
    unfold GatherDims.start
    rw [dif_neg (fun h => by simp at h), Nat.zero_add]
    rfl

/-- Dimension numbers of a slice of `K` entries out of a row of `M`, its start a pair (row, column). -/
abbrev takeAt (N M K E : Nat) (wf : GatherDims.WF ⟨2, ![N, M]⟩ ⟨2, ![E, 2]⟩ ⟨2, ![E, K]⟩ [1] [0] [] [0, 1] [] 1 ![1, K]) :
    GatherDims ⟨2, ![N, M]⟩ ⟨2, ![E, 2]⟩ ⟨2, ![E, K]⟩ where
  offsetDims := [1]
  collapsedSliceDims := [0]
  operandBatchingDims := []
  startIndicesBatchingDims := []
  startIndexMap := [0, 1]
  indexVectorDim := 1
  sliceSizes := ![1, K]
  wf := wf

/-- Such a slice whose start column is 0: the first `K` entries of the row that the pair's first word names. -/
theorem takeAt_zero {α : Type} {N M K E : Nat} [NeZero N] (hKM : K ≤ M)
    (wf : GatherDims.WF ⟨2, ![N, M]⟩ ⟨2, ![E, 2]⟩ ⟨2, ![E, K]⟩ [1] [0] [] [0, 1] [] 1 ![1, K])
    (x : (⟨2, ![N, M]⟩ : Shape).Idx → α) (idx : IVec ⟨2, ![E, 2]⟩ 32) (e : Fin E) (k : Fin K) (hz : idx (ix2 e 1) = 0#32) :
    Host.gather (takeAt N M K E wf) x idx (ix2 e k) = x (ix2 (rowAt N (idx (ix2 e 0))) (k.castLE hKM)) := by
  unfold Host.gather
  congr 1
  have hsi : ∀ c, (takeAt N M K E wf).siIdx (ix2 e k) c = ix2 e c := by
    intro c
    funext b; refine Fin.ext ?_
    match b with
    | ⟨0, _⟩ => rfl
    | ⟨1, _⟩ => rfl
  have hs0 : (takeAt N M K E wf).start (ix2 e k) idx 0 = (rowAt N (idx (ix2 e 0))).val := by
    unfold GatherDims.start
    refine (dif_pos (show (0 : Fin 2) ∈ ([0, 1] : List (Fin 2)) by decide)).trans ?_
    rw [hsi]
    rfl
  have hs1 : (takeAt N M K E wf).start (ix2 e k) idx 1 = 0 := by
    unfold GatherDims.start
    refine (dif_pos (show (1 : Fin 2) ∈ ([0, 1] : List (Fin 2)) by decide)).trans ?_
    rw [hsi]
    refine (congrArg (fun w : BitVec 32 => min w.toInt.toNat (M - K)) hz).trans ?_
    exact Nat.zero_min _
  funext a
  refine Fin.ext ?_
  show (takeAt N M K E wf).start (ix2 e k) idx a + (takeAt N M K E wf).batchCoord (ix2 e k) a + (takeAt N M K E wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    exact hs0
  | ⟨1, _⟩ =>
    refine (congrArg (fun n : Nat => n + 0 + (takeAt N M K E wf).offCoord (ix2 e k) 1) hs1).trans ?_
    show 0 + 0 + k.val = k.val
    omega

/-! ## Scatters that add -/

/-- Dimension numbers of `zeros.at[idx].add(rows)` for rows of `K` entries. -/
abbrev add2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Where the scatter puts entry `k` of edge `e`'s row: at row `n` exactly if `idx[e]`, read signed, is `n`. -/
theorem add2_lands {N K E : Nat} (wf : ScatterDims.WF ⟨2, ![N, K]⟩ ⟨2, ![E, 1]⟩ ⟨2, ![E, K]⟩ [1] [0] [0] 1)
    (idx : IVec ⟨2, ![E, 1]⟩ 32) (e : Fin E) (k : Fin K) (n : Fin N) (k' : Fin K) :
    (add2 N K E wf).resultIdx? (ix2 e k) idx = some (ix2 n k') ↔ (idx (ix2 e 0)).toInt = (n.val : Int) ∧ k = k' := by
  have hsi : ∀ c, (add2 N K E wf).siIdx (ix2 e k) c = ix2 e 0 := by
    intro c
    obtain rfl : c = (0 : Fin 1) := Subsingleton.elim (α := Fin 1) _ _
    funext b; refine Fin.ext ?_
    match b with
    | ⟨0, _⟩ => rfl
    | ⟨1, _⟩ => rfl
  have h0 : (add2 N K E wf).start (ix2 e k) idx 0 = (idx (ix2 e 0)).toInt := by
    unfold ScatterDims.start
    rw [dif_pos (List.mem_singleton.mpr rfl), hsi]
  have h1 : (add2 N K E wf).start (ix2 e k) idx 1 = 0 := by
    unfold ScatterDims.start
    rw [dif_neg (show (1 : Fin 2) ∉ ([0] : List (Fin 2)) by decide)]
  have w0 : (add2 N K E wf).window (ix2 e k) 0 = 0 := by
    unfold ScatterDims.window
    exact dif_neg (show (0 : Fin 2) ∉ ([1] : List (Fin 2)) by decide)
  have w1 : (add2 N K E wf).window (ix2 e k) 1 = k.val := rfl
  unfold ScatterDims.resultIdx?
  constructor
  · intro h
    split at h
    · rename_i hb
      have h := Option.some.inj h
      have e0 := congrArg Fin.val (congrFun h 0)
      have e1 := congrArg Fin.val (congrFun h 1)
      simp only [h0, h1, w0, w1] at e0 e1
      have b0 := (hb 0).1
      simp only [h0, w0] at b0
      have e0' : ((idx (ix2 e 0)).toInt + (0 : Nat)).toNat = n.val := e0
      have e1' : ((0 : Int) + (k.val : Nat)).toNat = k'.val := e1
      refine ⟨by omega, Fin.ext (by omega)⟩
    · exact absurd h (by simp)
  · rintro ⟨h, rfl⟩
    have hb : ∀ a, 0 ≤ (add2 N K E wf).start (ix2 e k) idx a + (add2 N K E wf).window (ix2 e k) a ∧
        (add2 N K E wf).start (ix2 e k) idx a + (add2 N K E wf).window (ix2 e k) a < (⟨2, ![N, K]⟩ : Shape).size a := by
      intro a
      match a with
      | ⟨0, _⟩ =>
        show 0 ≤ (add2 N K E wf).start (ix2 e k) idx 0 + (add2 N K E wf).window (ix2 e k) 0 ∧
          (add2 N K E wf).start (ix2 e k) idx 0 + (add2 N K E wf).window (ix2 e k) 0 < (N : Int)
        rw [h0, w0, h]; have := n.isLt; omega
      | ⟨1, _⟩ =>
        show 0 ≤ (add2 N K E wf).start (ix2 e k) idx 1 + (add2 N K E wf).window (ix2 e k) 1 ∧
          (add2 N K E wf).start (ix2 e k) idx 1 + (add2 N K E wf).window (ix2 e k) 1 < (K : Int)
        rw [h1, w1]; have := k.isLt; omega
    rw [dif_pos hb]
    refine congrArg some ?_
    funext a; refine Fin.ext ?_
    match a with
    | ⟨0, _⟩ =>
      show ((add2 N K E wf).start (ix2 e k) idx 0 + (add2 N K E wf).window (ix2 e k) 0).toNat = n.val
      rw [h0, w0, h]; omega
    | ⟨1, _⟩ =>
      show ((add2 N K E wf).start (ix2 e k) idx 1 + (add2 N K E wf).window (ix2 e k) 1).toNat = k.val
      rw [h1, w1]; omega

/-- The scatter at row `n`, entry `k`: the operand there plus the sum of the entries `k` of the edges that name row `n`. -/
theorem add2_at {N K E : Nat} (wf : ScatterDims.WF ⟨2, ![N, K]⟩ ⟨2, ![E, 1]⟩ ⟨2, ![E, K]⟩ [1] [0] [0] 1)
    (x : FVec Ideal ⟨2, ![N, K]⟩ .f32) (idx : IVec ⟨2, ![E, 1]⟩ 32) (upd : FVec Ideal ⟨2, ![E, K]⟩ .f32) (n : Fin N) (k : Fin K) :
    Host.scatterAdd (F := Ideal) (add2 N K E wf) x idx upd (ix2 n k)
      = x (ix2 n k) + ∑ e : Fin E, if (idx (ix2 e 0)).toInt = (n.val : Int) then upd (ix2 e k) else 0 := by
  show x (ix2 n k) + ∑ j ∈ Finset.univ.filter (fun j => (add2 N K E wf).resultIdx? j idx = some (ix2 n k)), upd j = _
  congr 1
  rw [Finset.sum_filter, sum_idx2]
  refine Finset.sum_congr rfl fun e _ => ?_
  rw [Finset.sum_eq_single k]
  · exact if_congr ((add2_lands wf idx e k n k).trans (and_iff_left rfl)) rfl rfl
  · intro k' _ hk
    rw [if_neg fun h => hk ((add2_lands wf idx e k' n k).1 h).2]
  · intro h; exact absurd (Finset.mem_univ k) h

/-- Dimension numbers of `zeros.at[idx].add(rows)` for rows of `H × C` entries. -/
abbrev add3 (N H C E : Nat) (wf : ScatterDims.WF ⟨3, ![N, H, C]⟩ ⟨2, ![E, 1]⟩ ⟨3, ![E, H, C]⟩ [1, 2] [0] [0] 1) :
    ScatterDims ⟨3, ![N, H, C]⟩ ⟨2, ![E, 1]⟩ ⟨3, ![E, H, C]⟩ where
  updateWindowDims := [1, 2]
  insertedWindowDims := [0]
  scatterDimsToOperandDims := [0]
  indexVectorDim := 1
  wf := wf

/-- Where the scatter puts entry `(h, c)` of edge `e`'s row: at row `n` exactly if `idx[e]`, read signed, is `n`. -/
theorem add3_lands {N H C E : Nat} (wf : ScatterDims.WF ⟨3, ![N, H, C]⟩ ⟨2, ![E, 1]⟩ ⟨3, ![E, H, C]⟩ [1, 2] [0] [0] 1)
    (idx : IVec ⟨2, ![E, 1]⟩ 32) (e : Fin E) (h : Fin H) (c : Fin C) (n : Fin N) (h' : Fin H) (c' : Fin C) :
    (add3 N H C E wf).resultIdx? (ix3 e h c) idx = some (ix3 n h' c')
      ↔ (idx (ix2 e 0)).toInt = (n.val : Int) ∧ h = h' ∧ c = c' := by
  have hsi : ∀ q, (add3 N H C E wf).siIdx (ix3 e h c) q = ix2 e 0 := by
    intro q
    obtain rfl : q = (0 : Fin 1) := Subsingleton.elim (α := Fin 1) _ _
    funext b; refine Fin.ext ?_
    match b with
    | ⟨0, _⟩ => rfl
    | ⟨1, _⟩ => rfl
  have h0 : (add3 N H C E wf).start (ix3 e h c) idx 0 = (idx (ix2 e 0)).toInt := by
    unfold ScatterDims.start
    rw [dif_pos (List.mem_singleton.mpr rfl), hsi]
  have h1 : (add3 N H C E wf).start (ix3 e h c) idx 1 = 0 := by
    unfold ScatterDims.start
    rw [dif_neg (show (1 : Fin 3) ∉ ([0] : List (Fin 3)) by decide)]
  have h2 : (add3 N H C E wf).start (ix3 e h c) idx 2 = 0 := by
    unfold ScatterDims.start
    rw [dif_neg (show (2 : Fin 3) ∉ ([0] : List (Fin 3)) by decide)]
  have w0 : (add3 N H C E wf).window (ix3 e h c) 0 = 0 := by
    unfold ScatterDims.window
    exact dif_neg (show (0 : Fin 3) ∉ ([1, 2] : List (Fin 3)) by decide)
  have w1 : (add3 N H C E wf).window (ix3 e h c) 1 = h.val := rfl
  have w2 : (add3 N H C E wf).window (ix3 e h c) 2 = c.val := rfl
  unfold ScatterDims.resultIdx?
  constructor
  · intro hs
    split at hs
    · rename_i hb
      have hs := Option.some.inj hs
      have e0 := congrArg Fin.val (congrFun hs 0)
      have e1 := congrArg Fin.val (congrFun hs 1)
      have e2 := congrArg Fin.val (congrFun hs 2)
      simp only [h0, h1, h2, w0, w1, w2] at e0 e1 e2
      have b0 := (hb 0).1
      simp only [h0, w0] at b0
      have e0' : ((idx (ix2 e 0)).toInt + (0 : Nat)).toNat = n.val := e0
      have e1' : ((0 : Int) + (h.val : Nat)).toNat = h'.val := e1
      have e2' : ((0 : Int) + (c.val : Nat)).toNat = c'.val := e2
      refine ⟨by omega, Fin.ext (by omega), Fin.ext (by omega)⟩
    · exact absurd hs (by simp)
  · rintro ⟨hn, rfl, rfl⟩
    have hb : ∀ a, 0 ≤ (add3 N H C E wf).start (ix3 e h c) idx a + (add3 N H C E wf).window (ix3 e h c) a ∧
        (add3 N H C E wf).start (ix3 e h c) idx a + (add3 N H C E wf).window (ix3 e h c) a < (⟨3, ![N, H, C]⟩ : Shape).size a := by
      intro a
      match a with
      | ⟨0, _⟩ =>
        show 0 ≤ (add3 N H C E wf).start (ix3 e h c) idx 0 + (add3 N H C E wf).window (ix3 e h c) 0 ∧
          (add3 N H C E wf).start (ix3 e h c) idx 0 + (add3 N H C E wf).window (ix3 e h c) 0 < (N : Int)
        rw [h0, w0, hn]; have := n.isLt; omega
      | ⟨1, _⟩ =>
        show 0 ≤ (add3 N H C E wf).start (ix3 e h c) idx 1 + (add3 N H C E wf).window (ix3 e h c) 1 ∧
          (add3 N H C E wf).start (ix3 e h c) idx 1 + (add3 N H C E wf).window (ix3 e h c) 1 < (H : Int)
        rw [h1, w1]; have := h.isLt; omega
      | ⟨2, _⟩ =>
        show 0 ≤ (add3 N H C E wf).start (ix3 e h c) idx 2 + (add3 N H C E wf).window (ix3 e h c) 2 ∧
          (add3 N H C E wf).start (ix3 e h c) idx 2 + (add3 N H C E wf).window (ix3 e h c) 2 < (C : Int)
        rw [h2, w2]; have := c.isLt; omega
    rw [dif_pos hb]
    refine congrArg some ?_
    funext a; refine Fin.ext ?_
    match a with
    | ⟨0, _⟩ =>
      show ((add3 N H C E wf).start (ix3 e h c) idx 0 + (add3 N H C E wf).window (ix3 e h c) 0).toNat = n.val
      rw [h0, w0, hn]; omega
    | ⟨1, _⟩ =>
      show ((add3 N H C E wf).start (ix3 e h c) idx 1 + (add3 N H C E wf).window (ix3 e h c) 1).toNat = h.val
      rw [h1, w1]; omega
    | ⟨2, _⟩ =>
      show ((add3 N H C E wf).start (ix3 e h c) idx 2 + (add3 N H C E wf).window (ix3 e h c) 2).toNat = c.val
      rw [h2, w2]; omega

/-- The scatter at row `n`, entry `(h, c)`: the operand there plus the sum of the entries `(h, c)` of the edges that name row `n`. -/
theorem add3_at {N H C E : Nat} (wf : ScatterDims.WF ⟨3, ![N, H, C]⟩ ⟨2, ![E, 1]⟩ ⟨3, ![E, H, C]⟩ [1, 2] [0] [0] 1)
    (x : FVec Ideal ⟨3, ![N, H, C]⟩ .f32) (idx : IVec ⟨2, ![E, 1]⟩ 32) (upd : FVec Ideal ⟨3, ![E, H, C]⟩ .f32)
    (n : Fin N) (h : Fin H) (c : Fin C) :
    Host.scatterAdd (F := Ideal) (add3 N H C E wf) x idx upd (ix3 n h c)
      = x (ix3 n h c) + ∑ e : Fin E, if (idx (ix2 e 0)).toInt = (n.val : Int) then upd (ix3 e h c) else 0 := by
  show x (ix3 n h c) + ∑ j ∈ Finset.univ.filter (fun j => (add3 N H C E wf).resultIdx? j idx = some (ix3 n h c)), upd j = _
  congr 1
  rw [Finset.sum_filter, sum_idx3]
  refine Finset.sum_congr rfl fun e _ => ?_
  rw [Finset.sum_eq_single h]
  · rw [Finset.sum_eq_single c]
    · exact if_congr ((add3_lands wf idx e h c n h c).trans (and_iff_left ⟨rfl, rfl⟩)) rfl rfl
    · intro c' _ hc
      rw [if_neg fun q => hc ((add3_lands wf idx e h c' n h c).1 q).2.2]
    · intro q; exact absurd (Finset.mem_univ c) q
  · intro h' _ hh
    refine Finset.sum_eq_zero fun c' _ => ?_
    rw [if_neg fun q => hh ((add3_lands wf idx e h' c' n h c).1 q).2.1]
  · intro q; exact absurd (Finset.mem_univ h) q

end Cert.Rows
-- ==== Proof.Spec.lean ====
/- Two layers of graph attention over extended reals, entry by entry: the common form that the kernel's result and the
   reference's result are both brought to. There are 10000 nodes, 320000 edges, 4 heads of 128 features. -/
module

public import proofs.«01_k».proof.Proof.Rows

@[expose] public section

noncomputable section

namespace Cert.Spec

open Idealize.ShloMosaic Cert.Rows

/-- An array of extended reals with one row per node. -/
abbrev Feat : Type := FVec Ideal ⟨2, ![10000, 128]⟩ .f32
/-- A vector of 128 parameters. -/
abbrev Par : Type := FVec Ideal ⟨1, ![128]⟩ .f32
/-- The four heads' attention vectors. -/
abbrev Att : Type := FVec Ideal ⟨2, ![4, 128]⟩ .f32
/-- One node number per edge. -/
abbrev Ends : Type := IVec ⟨1, ![320000]⟩ 32

/-- The column of head `h`, feature `c` in an array of 512 columns. -/
def col (h : Fin 4) (c : Fin 128) : Fin 512 := ⟨h.val * 128 + c.val, by omega⟩

/-- The projected features: row `n` of `x · W`, head `h`, feature `c`. -/
def proj (x : Feat) (W : FVec Ideal ⟨2, ![128, 512]⟩ .f32) (n : Fin 10000) (h : Fin 4) (c : Fin 128) : EReal :=
  ∑ k : Fin 128, x (ix2 n k) * W (ix2 k (col h c))

/-- A head's attention score of node `n`: its projected features against the head's attention vector. -/
def score (p : Fin 10000 → Fin 4 → Fin 128 → EReal) (a : Att) (n : Fin 10000) (h : Fin 4) : EReal :=
  ∑ c : Fin 128, p n h c * a (ix2 h c)

/-- A node number counted from the end, if negative. -/
def wrap (w : BitVec 32) : BitVec 32 := Scalar.select (IntOp.cmpi .slt w 0#32) (IntOp.addi w 10000#32) w

/-- The node whose row is read for the word `w`. -/
def node (w : BitVec 32) : Fin 10000 := rowAt 10000 (wrap w)

/-- The leaky rectifier of slope 0.2 (as rounded to f32). -/
def leaky (z : EReal) : EReal := if 0 ≤ z then z else Ideal.ofBits .f32 0x3E4CCCCD#32 * z

section Edges
variable (s d : Fin 10000 → Fin 4 → EReal) (src dst : Ends)

/-- An edge's logit: the rectified sum of its source's and its target's scores. -/
def logit (e : Fin 320000) (h : Fin 4) : EReal :=
  leaky (s (node (src (ix1 e))) h + d (node (dst (ix1 e))) h)

/-- Sum of `f` over the edges whose target is node `n`. -/
def into (n : Fin 10000) (f : Fin 320000 → EReal) : EReal :=
  ∑ e : Fin 320000, if (dst (ix1 e)).toInt = (n.val : Int) then f e else 0

/-- The softmax denominator of node `n`, without its guard. -/
def total (n : Fin 10000) (h : Fin 4) : EReal := into dst n fun e => Ideal.exp (logit s d src dst e h)

/-- An edge's attention coefficient: its weight over its target's total plus the guard 1e-16 (as rounded to f32). -/
def coef (e : Fin 320000) (h : Fin 4) : EReal :=
  Ideal.div (Ideal.exp (logit s d src dst e h)) (total s d src dst (node (dst (ix1 e))) h + Ideal.ofBits .f32 0x24E69595#32)

end Edges

/-- The messages that reach node `n`, weighted by `q` and summed over edges and heads. -/
def gathered (p : Fin 10000 → Fin 4 → Fin 128 → EReal) (q : Fin 320000 → Fin 4 → EReal) (src dst : Ends)
    (n : Fin 10000) (c : Fin 128) : EReal :=
  ∑ h : Fin 4, into dst n fun e => p (node (src (ix1 e))) h c * q e h

/-- Summing an edge's heads first gives the same messages. -/
theorem gathered_eq (p : Fin 10000 → Fin 4 → Fin 128 → EReal) (q : Fin 320000 → Fin 4 → EReal) (src dst : Ends)
    (n : Fin 10000) (c : Fin 128) :
    into dst n (fun e => ∑ h : Fin 4, q e h * p (node (src (ix1 e))) h c) = gathered p q src dst n c := by
  unfold gathered into
  rw [Finset.sum_comm]
  refine Finset.sum_congr rfl fun e _ => ?_
  split
  · exact Finset.sum_congr rfl fun h _ => mul_comm _ _
  · simp

/-- Mean of the heads, bias, evaluation batch norm, rectifier, of one summed message `g`. -/
def post (b γ β : Par) (g : EReal) (c : Fin 128) : EReal :=
  max ((g * ((1 / 4 : ℝ) : EReal) + b (ix1 c)) * (((Real.sqrt (2097173 / 2097152))⁻¹ : ℝ) : EReal) * γ (ix1 c) + β (ix1 c)) 0

/-- What one layer's weights are: projection, attention vectors, bias, batch norm scale and shift. -/
structure Weights where
  W : FVec Ideal ⟨2, ![128, 512]⟩ .f32
  aSrc : Att
  aDst : Att
  b : Par
  γ : Par
  β : Par

/-- The attention coefficients of a layer on features `x`. -/
def layerCoef (w : Weights) (src dst : Ends) (x : Feat) : Fin 320000 → Fin 4 → EReal :=
  coef (score (proj x w.W) w.aSrc) (score (proj x w.W) w.aDst) src dst

/-- One layer on features `x`. -/
def layer (w : Weights) (src dst : Ends) (x : Feat) : Feat := fun j =>
  post w.b w.γ w.β (gathered (proj x w.W) (layerCoef w src dst x) src dst (j 0) (j 1)) (j 1)

/-- The final linear map of features `y`. -/
def final (Wf : FVec Ideal ⟨2, ![128, 128]⟩ .f32) (bf : Par) (y : Feat) : Feat := fun j =>
  (∑ k : Fin 128, y (ix2 (j 0) k) * Wf (ix2 k (j 1))) + bf (ix1 (j 1))

end Cert.Spec
-- ==== Proof.Consts.lean ====
/- The float constants the two programs spell, as the extended reals their patterns denote. -/
module

public import proofs.«01_k».proof.KernelIdeal
public import Idealize.ShloMosaic.Lib.IdealHost

@[expose] public section

noncomputable section

namespace Cert.Consts

open Idealize.ShloMosaic

/-- The number of heads, which the reference divides by. -/
theorem ofBits_four : Ideal.ofBits .f32 0x40800000#32 = ((4 : ℝ) : EReal) := by
  simp [Ideal.ofBits, Ideal.ieee, -EReal.coe_mul]; norm_num

/-- The reciprocal of the number of heads, which the kernel multiplies by. -/
theorem ofBits_quarter : Ideal.ofBits .f32 0x3E800000#32 = ((1 / 4 : ℝ) : EReal) := by
  simp [Ideal.ofBits, Ideal.ieee, -EReal.coe_mul]; norm_num

/-- `1 + 1e-5` rounded to f32, of which the reference takes the root. -/
theorem ofBits_var : Ideal.ofBits .f32 0x3F800054#32 = ((2097173 / 2097152 : ℝ) : EReal) := by
  simp [Ideal.ofBits, Ideal.ieee, -EReal.coe_mul]; norm_num

/-- The root the reference divides by is not zero. -/
theorem root_ne_zero : Real.sqrt (2097173 / 2097152) ≠ 0 := (Real.sqrt_pos.mpr (by norm_num)).ne'

/-- The root the reference divides by, as an extended real. -/
theorem sqrt_var : Ideal.sqrt (Ideal.ofBits .f32 0x3F800054#32) = ((Real.sqrt (2097173 / 2097152) : ℝ) : EReal) := by
  rw [ofBits_var, Ideal.sqrt_coe, if_neg (by norm_num)]

/-- The kernel's batch norm factor denotes the reciprocal of that root. -/
theorem inv_bn : Named.named (F := Ideal) Cert.KernelIdeal.κ "inv_bn" (φ := .f32) 0x3F7FFFAC#32 = (((Real.sqrt (2097173 / 2097152))⁻¹ : ℝ) : EReal) :=
  IdealRules.named_const.ideal_named_scalar _ _ _ _ rfl

/-- The pattern of infinity. -/
theorem ofBits_inf : Ideal.ofBits .f32 0x7F800000#32 = ⊤ := by
  simp [Ideal.ofBits, Ideal.ieee]

/-- An extended real whose absolute value is less than infinity is a real number. -/
theorem real_of_abs_lt (x : Ideal .f32) (h : FloatOps.absf x < (⊤ : EReal)) : ∃ r : ℝ, x = (r : EReal) := by
  have h' : max (x : EReal) (-(x : EReal)) < ⊤ := h
  rw [max_lt_iff] at h'
  refine ⟨EReal.toReal x, (EReal.coe_toReal h'.1.ne fun hb => ?_).symm⟩
  rw [hb, EReal.neg_bot] at h'
  exact absurd h'.2 (lt_irrefl _)

end Cert.Consts
-- ==== Proof.Regions.lean ====
/- What each pallas_call leaves in the arrays it writes, as a function of the arrays it reads. -/
module

public import proofs.«01_k».proof.Proof.Spec
public import proofs.«01_k».proof.Proof.Consts
public import proofs.«01_k».proof.Proof.Gen.KernelIdeal.Frame
public import Idealize.ShloMosaic.Lib.Pipeline.ValueKit

@[expose] public section

set_option maxRecDepth 16384

noncomputable section

namespace Cert.Regions

open Idealize.ShloMosaic Idealize.ShloMosaic.TcCoe Idealize.SL.Sem
open Idealize.ShloMosaic.Pipeline (Dat)
open Cert.KernelIdeal Cert.KernelIdeal.Gen Cert.Spec

/-- The projected features as one array of 512 columns. -/
def featArr (x : FVec Ideal S10000x128 .f32) (W : FVec Ideal S128x512 .f32) : FVec Ideal S10000x512 .f32 :=
  fun j => ∑ i : Fin 128, x (ix2 (j 0) i) * W (ix2 i (j 1))

/-- A table of scores: four columns of scores, the rest zero. -/
def scoreArr (x : FVec Ideal S10000x128 .f32) (W : FVec Ideal S128x512 .f32) (a : FVec Ideal S4x128 .f32) : FVec Ideal S10000x16 .f32 :=
  fun j => if h : (j 1).val < 4 then ∑ c : Fin 128, (∑ i : Fin 128, x (ix2 (j 0) i) * W (ix2 i (col ⟨(j 1).val, h⟩ c))) * a (ix2 ⟨(j 1).val, h⟩ c) else (((0#32 : BitVec 32).toInt : ℝ) : EReal)

/-- Mean of the heads, bias, batch norm and rectifier of an array of summed messages. -/
def postArr (b γ β : Par) (g : Feat) : Feat := fun j => Spec.post b γ β (g j) (j 1)

variable (V : (c : Dev nD) → (b : Ref sig .tc) → Buf (Elt Ideal) ((c : Thread nD τ).loc b))

/-- Which block of each array a point of the first projection reads or writes. -/
theorem idx0 : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

/-- The first projection's feature array. -/
theorem feat1 (c : Dev nD) : (dat0 V c).arrAt 4 cfg0.N = featArr (V c main_arg0) (V c main_arg2) := by
  refine (dat0 V c).arrAt_eq_of_covers 4 _ (by decide +kernel) fun t _ y => ?_
  blk_simp
  rw [after0_4]; frame_out
  pointwise [k0_pay1, featArr]
  blk_point [iblk0, idx0 t]

/-- The first projection's source scores. -/
theorem src1 (c : Dev nD) : (dat0 V c).arrAt 5 cfg0.N = scoreArr (V c main_arg0) (V c main_arg2) (V c main_arg3) := by
  refine (dat0 V c).arrAt_eq_of_covers 5 _ (by decide +kernel) fun t _ y => ?_
  have hc : (((cfg0.win 5).blk t).view.emb y 1).val = (y 1).val := by blk_simp [idx0 t]
  blk_simp
  rw [after0_5]; frame_out
  pointwise [k0_pay3, k0_pay2, k0_pay1, scoreArr, col]
  by_cases hy : (y 1).val < 4
  · refine (dif_pos hy).trans (Eq.trans ?_ (dif_pos (hc.trans_lt hy)).symm)
    blk_point [iblk0, idx0 t]
  · refine (dif_neg hy).trans (Eq.symm (dif_neg ?_))
    exact fun h => hy (hc.symm.trans_lt h)

/-- The first projection's target scores. -/
theorem dst1 (c : Dev nD) : (dat0 V c).arrAt 6 cfg0.N = scoreArr (V c main_arg0) (V c main_arg2) (V c main_arg4) := by
  refine (dat0 V c).arrAt_eq_of_covers 6 _ (by decide +kernel) fun t _ y => ?_
  have hc : (((cfg0.win 6).blk t).view.emb y 1).val = (y 1).val := by blk_simp [idx0 t]
  blk_simp
  rw [after0_6]; frame_out
  pointwise [k0_pay4, k0_pay2, k0_pay1, scoreArr, col]
  by_cases hy : (y 1).val < 4
  · refine (dif_pos hy).trans (Eq.trans ?_ (dif_pos (hc.trans_lt hy)).symm)
    blk_point [iblk0, idx0 t]
  · refine (dif_neg hy).trans (Eq.symm (dif_neg ?_))
    exact fun h => hy (hc.symm.trans_lt h)

/-- Which block of each array a point of the first batch norm reads or writes. -/
theorem idx1 : ∀ t : Fin cfg1.N, win1_0.index t = ![t.val, 0] ∧ win1_1.index t = ![0] ∧ win1_2.index t = ![0] ∧ win1_3.index t = ![0] ∧ win1_4.index t = ![t.val, 0] :=
  (by decide +kernel : ∀ t : Fin grid1.N, _)

/-- What the first batch norm leaves. -/
theorem norm1 (c : Dev nD) : (dat1 V c).arrAt 4 cfg1.N = postArr (V c main_arg5) (V c main_arg6) (V c main_arg7) (V c main_v54) := by
  refine (dat1 V c).arrAt_eq_of_covers 4 _ (by decide +kernel) fun t _ y => ?_
  blk_simp
  rw [after1_4]; frame_out
  pointwise [k1_pay1, postArr, Spec.post, Consts.inv_bn, Consts.ofBits_quarter]
  blk_point [iblk1, idx1 t]

/-- Which block of each array a point of the second projection reads or writes. -/
theorem idx2 : ∀ t : Fin cfg2.N, win2_0.index t = ![t.val, 0] ∧ win2_1.index t = ![0, 0] ∧ win2_2.index t = ![0, 0] ∧ win2_3.index t = ![0, 0] ∧ win2_4.index t = ![t.val, 0] ∧ win2_5.index t = ![t.val, 0] ∧ win2_6.index t = ![t.val, 0] :=
  (by decide +kernel : ∀ t : Fin grid2.N, _)

/-- The second projection's feature array. -/
theorem feat2 (c : Dev nD) : (dat2 V c).arrAt 4 cfg2.N = featArr (V c main_v55) (V c main_arg8) := by
  refine (dat2 V c).arrAt_eq_of_covers 4 _ (by decide +kernel) fun t _ y => ?_
  blk_simp
  rw [after2_4]; frame_out
  pointwise [k2_pay1, featArr]
  blk_point [iblk2, idx2 t]

/-- The second projection's source scores. -/
theorem src2 (c : Dev nD) : (dat2 V c).arrAt 5 cfg2.N = scoreArr (V c main_v55) (V c main_arg8) (V c main_arg9) := by
  refine (dat2 V c).arrAt_eq_of_covers 5 _ (by decide +kernel) fun t _ y => ?_
  have hc : (((cfg2.win 5).blk t).view.emb y 1).val = (y 1).val := by blk_simp [idx2 t]
  blk_simp
  rw [after2_5]; frame_out
  pointwise [k2_pay3, k2_pay2, k2_pay1, scoreArr, col]
  by_cases hy : (y 1).val < 4
  · refine (dif_pos hy).trans (Eq.trans ?_ (dif_pos (hc.trans_lt hy)).symm)
    blk_point [iblk2, idx2 t]
  · refine (dif_neg hy).trans (Eq.symm (dif_neg ?_))
    exact fun h => hy (hc.symm.trans_lt h)

/-- The second projection's target scores. -/
theorem dst2 (c : Dev nD) : (dat2 V c).arrAt 6 cfg2.N = scoreArr (V c main_v55) (V c main_arg8) (V c main_arg10) := by
  refine (dat2 V c).arrAt_eq_of_covers 6 _ (by decide +kernel) fun t _ y => ?_
  have hc : (((cfg2.win 6).blk t).view.emb y 1).val = (y 1).val := by blk_simp [idx2 t]
  blk_simp
  rw [after2_6]; frame_out
  pointwise [k2_pay4, k2_pay2, k2_pay1, scoreArr, col]
  by_cases hy : (y 1).val < 4
  · refine (dif_pos hy).trans (Eq.trans ?_ (dif_pos (hc.trans_lt hy)).symm)
    blk_point [iblk2, idx2 t]
  · refine (dif_neg hy).trans (Eq.symm (dif_neg ?_))
    exact fun h => hy (hc.symm.trans_lt h)

/-- Which block of each array a point of the second batch norm reads or writes. -/
theorem idx3 : ∀ t : Fin cfg3.N, win3_0.index t = ![t.val, 0] ∧ win3_1.index t = ![0] ∧ win3_2.index t = ![0] ∧ win3_3.index t = ![0] ∧ win3_4.index t = ![t.val, 0] :=
  (by decide +kernel : ∀ t : Fin grid3.N, _)

/-- What the second batch norm leaves. -/
theorem norm2 (c : Dev nD) : (dat3 V c).arrAt 4 cfg3.N = postArr (V c main_arg11) (V c main_arg12) (V c main_arg13) (V c main_v106) := by
  refine (dat3 V c).arrAt_eq_of_covers 4 _ (by decide +kernel) fun t _ y => ?_
  blk_simp
  rw [after3_4]; frame_out
  pointwise [k3_pay1, postArr, Spec.post, Consts.inv_bn, Consts.ofBits_quarter]
  blk_point [iblk3, idx3 t]

/-- Which block of each array a point of the final linear map reads or writes. -/
theorem idx4 : ∀ t : Fin cfg4.N, win4_0.index t = ![t.val, 0] ∧ win4_1.index t = ![0, 0] ∧ win4_2.index t = ![0] ∧ win4_3.index t = ![t.val, 0] :=
  (by decide +kernel : ∀ t : Fin grid4.N, _)

/-- What the final linear map leaves. -/
theorem final_out (c : Dev nD) : (dat4 V c).arrAt 3 cfg4.N = Spec.final (V c main_arg14) (V c main_arg15) (V c main_v107) := by
  refine (dat4 V c).arrAt_eq_of_covers 3 _ (by decide +kernel) fun t _ y => ?_
  blk_simp
  rw [after4_3]; frame_out
  pointwise [k4_pay1, Spec.final]
  blk_point [iblk4, idx4 t]

end Cert.Regions
-- ==== Proof.Edges.lean ====
/- The kernel's edge stage between two pallas_calls, read entry by entry. -/
module

public import proofs.«01_k».proof.Proof.Spec
public import proofs.«01_k».proof.Proof.Consts
public import proofs.«01_k».proof.Proof.Gen.KernelIdeal.Launch
public import Idealize.ShloMosaic.Lib.Claim
public import Idealize.ShloMosaic.Lib.Pointwise

@[expose] public section

set_option maxRecDepth 16384

noncomputable section

namespace Cert.Edges

open Idealize.ShloMosaic Idealize.ShloMosaic.TcCoe Cert.KernelIdeal Cert.KernelIdeal.Gen Cert.Rows Cert.Spec

/-- The row numbers `table[i]` reads, one per edge. -/
def rows (i : IVec S320000 32) : IVec S320000x1 32 :=
  broadcastInDim S320000x1 ![0] bcast_S320000_S320000x1_0 (select (cmpi .slt i (broadcastInDim S320000 ![] bcast_S_S320000 (constantI S_ 32 0#32))) (addi i (broadcastInDim S320000 ![] bcast_S_S320000 (constantI S_ 32 10000#32))) i)

/-- The row number of edge `e`. -/
theorem rows_at (i : IVec S320000 32) (e : Fin 320000) : rows i (ix2 e 0) = wrap (i (ix1 e)) := by
  pointwise [rows, wrap]

/-- The positions `table[i, :4]` reads: row number and column 0. -/
def starts (i : IVec S320000 32) : IVec S320000x2 32 :=
  concatenate S320000x2 1 [⟨S320000x1, rows i⟩, ⟨S320000x1, broadcastInDim S320000x1 ![] bcast_S_S320000x1 (constantI S_ 32 0#32)⟩] concatenates_S320000x1_S320000x1_S320000x2_d1

/-- A position's row number. -/
theorem starts_row (i : IVec S320000 32) (e : Fin 320000) : starts i (ix2 e 0) = wrap (i (ix1 e)) := by
  rw [← rows_at]
  pointwise [starts]

/-- A position's column is 0. -/
theorem starts_col (i : IVec S320000 32) (e : Fin 320000) : starts i (ix2 e 1) = 0#32 := by
  pointwise [starts]

/-- The first four columns of a score table at the edges' ends. -/
def take (t : FVec Ideal S10000x16 .f32) (i : IVec S320000 32) : FVec Ideal S320000x4 .f32 :=
  Host.gather gather_S10000x16_S320000x2_S320000x4_1_0_n_n_01_1_14 t (starts i)

/-- A score table's row at an edge's end. -/
theorem take_at (t : FVec Ideal S10000x16 .f32) (i : IVec S320000 32) (e : Fin 320000) (h : Fin 4) :
    take t i (ix2 e h) = t (ix2 (node (i (ix1 e))) (h.castLE (by decide))) := by
  rw [show take t i (ix2 e h) = _ from takeAt_zero (by decide) _ t (starts i) e h (starts_col i e), starts_row]
  rfl

/-- The exponential of the leaky rectifier. -/
def weights (z : FVec Ideal S320000x4 .f32) : FVec Ideal S320000x4 .f32 :=
  Host.exp (select (cmpf .oge z (broadcastInDim S320000x4 ![] bcast_S_S320000x4 (constant S_ .f32 0x00000000#32))) z (mulf (broadcastInDim S320000x4 ![] bcast_S_S320000x4 (constant S_ .f32 0x3E4CCCCD#32)) z))

/-- An edge's weight. -/
theorem weights_at (s d : FVec Ideal S10000x16 .f32) (src dst : IVec S320000 32) (e : Fin 320000) (h : Fin 4) :
    weights (addf (take s src) (take d dst)) (ix2 e h)
      = Ideal.exp (logit (fun n h => s (ix2 n (h.castLE (by decide)))) (fun n h => d (ix2 n (h.castLE (by decide)))) src dst e h) := by
  pointwise [weights, logit, leaky, take_at]

/-- The attention coefficients: a weight over its target's total plus the guard. -/
def coefs (w : FVec Ideal S320000x4 .f32) (dst : IVec S320000 32) : FVec Ideal S320000x4 .f32 :=
  Host.divf w (addf (Host.gather gather_S10000x4_S320000x1_S320000x4_1_0_n_n_0_1_14 (Host.scatterAdd scatter_S10000x4_S320000x1_S320000x4_1_0_0_1 (broadcastInDim S10000x4 ![] bcast_S_S10000x4 (constant S_ .f32 0x00000000#32)) (broadcastInDim S320000x1 ![0] bcast_S320000_S320000x1_0 dst) w) (rows dst)) (broadcastInDim S320000x4 ![] bcast_S_S320000x4 (constant S_ .f32 0x24E69595#32)))

/-- A coefficient at an edge and head. -/
theorem coefs_at (w : FVec Ideal S320000x4 .f32) (dst : IVec S320000 32) (e : Fin 320000) (h : Fin 4) :
    coefs w dst (ix2 e h) = Ideal.div (w (ix2 e h)) (into dst (node (dst (ix1 e))) (fun e' => w (ix2 e' h)) + Ideal.ofBits .f32 0x24E69595#32) := by
  pointwise [coefs]
  rw [show Host.gather gather_S10000x4_S320000x1_S320000x4_1_0_n_n_0_1_14 _ (rows dst) (ix2 e h) = _ from take2_at _ _ (rows dst) e h, rows_at,
    show Host.scatterAdd scatter_S10000x4_S320000x1_S320000x4_1_0_0_1 _ _ w (ix2 _ h) = _ from add2_at _ _ _ w _ h]
  pointwise [into, node]

/-- The messages: each edge's heads contracted first, then summed into the targets. -/
def messages (f : FVec Ideal S10000x512 .f32) (q : FVec Ideal S320000x4 .f32) (src dst : IVec S320000 32) : FVec Ideal S10000x128 .f32 :=
  Host.scatterAdd scatter_S10000x128_S320000x1_S320000x128_1_0_0_1 (broadcastInDim S10000x128 ![] bcast_S_S10000x128 (constant S_ .f32 0x00000000#32)) (broadcastInDim S320000x1 ![0] bcast_S320000_S320000x1_0 dst)
    (Host.dotGeneral dot_S320000x4_S320000x4x128_S320000x128_1_1_n_2_0_0 none q (Host.gather gather_S10000x4x128_S320000x1_S320000x4x128_12_0_n_n_0_1_14128 (shapeCast S10000x4x128 f shapeCasts_S10000x512_S10000x4x128) (rows src)))

/-- The projected features at an edge's source. -/
theorem feat_at (f : FVec Ideal S10000x512 .f32) (src : IVec S320000 32) (e : Fin 320000) (h : Fin 4) (c : Fin 128) :
    Host.gather gather_S10000x4x128_S320000x1_S320000x4x128_12_0_n_n_0_1_14128 (shapeCast S10000x4x128 f shapeCasts_S10000x512_S10000x4x128) (rows src) (ix3 e h c)
      = f (ix2 (node (src (ix1 e))) (col h c)) := by
  rw [show Host.gather gather_S10000x4x128_S320000x1_S320000x4x128_12_0_n_n_0_1_14128 _ (rows src) (ix3 e h c) = _ from take3_at _ _ (rows src) e h c, rows_at]
  pointwise [node, col]

/-- The messages at a node and feature. -/
theorem messages_at (f : FVec Ideal S10000x512 .f32) (q : FVec Ideal S320000x4 .f32) (src dst : IVec S320000 32) (n : Fin 10000) (c : Fin 128) :
    messages f q src dst (ix2 n c) = gathered (fun n h c => f (ix2 n (col h c))) (fun e h => q (ix2 e h)) src dst n c := by
  rw [← gathered_eq, messages, show Host.scatterAdd scatter_S10000x128_S320000x1_S320000x128_1_0_0_1 _ _ _ (ix2 n c) = _ from add2_at _ _ _ _ n c]
  pointwise [into, feat_at]

/-- The edge stage as a whole. -/
def edge (f : FVec Ideal S10000x512 .f32) (s d : FVec Ideal S10000x16 .f32) (src dst : IVec S320000 32) : FVec Ideal S10000x128 .f32 :=
  messages f (coefs (weights (addf (take s src) (take d dst))) dst) src dst

/-- The edge stage at a node and feature. -/
theorem edge_at (f : FVec Ideal S10000x512 .f32) (s d : FVec Ideal S10000x16 .f32) (src dst : IVec S320000 32) (n : Fin 10000) (c : Fin 128) :
    edge f s d src dst (ix2 n c) = gathered (fun n h c => f (ix2 n (col h c)))
      (coef (fun n h => s (ix2 n (h.castLE (by decide)))) (fun n h => d (ix2 n (h.castLE (by decide)))) src dst) src dst n c := by
  rw [edge, messages_at]
  simp only [coefs_at, weights_at]
  rfl

/-- The host operations between the first projection and the first batch norm compute the edge stage. -/
theorem stretch1 (X : Valuation τ sig (Elt Ideal)) :
    StableHlo.after hostOps1_2 (StableHlo.after hostOps1_1 (StableHlo.after hostOps1 X)) (Proc.devRef .tc main_v54)
      = edge (X (Proc.devRef .tc main_v4_0)) (X (Proc.devRef .tc main_v4_1)) (X (Proc.devRef .tc main_v4_2)) (X (Proc.devRef .tc main_v1)) (X (Proc.devRef .tc main_v3)) := by
  after_results
  rfl

/-- The same between the second projection and the second batch norm. -/
theorem stretch2 (X : Valuation τ sig (Elt Ideal)) :
    StableHlo.after hostOps3_2 (StableHlo.after hostOps3_1 (StableHlo.after hostOps3 X)) (Proc.devRef .tc main_v106)
      = edge (X (Proc.devRef .tc main_v56_0)) (X (Proc.devRef .tc main_v56_1)) (X (Proc.devRef .tc main_v56_2)) (X (Proc.devRef .tc main_v1)) (X (Proc.devRef .tc main_v3)) := by
  after_results
  rfl

/-- Row 0 of the edge list: the sources. -/
def srcOf (i : IVec S2x320000 32) : IVec S320000 32 :=
  shapeCast S320000 (extractStridedSlice S1x320000 ![0, 0] i slices_S2x320000_S1x320000_0_0) shapeCasts_S1x320000_S320000

/-- Row 1 of the edge list: the targets. -/
def dstOf (i : IVec S2x320000 32) : IVec S320000 32 :=
  shapeCast S320000 (extractStridedSlice S1x320000 ![1, 0] i slices_S2x320000_S1x320000_1_0) shapeCasts_S1x320000_S320000

/-- The kernel's sources are row 0 of the edge list. -/
theorem src_eq (X : Valuation τ sig (Elt Ideal)) : StableHlo.after hostOps0 X (Proc.devRef .tc main_v1) = srcOf (X (Proc.devRef .tc main_arg1)) := by
  after_results
  rfl

/-- The kernel's targets are row 1 of the edge list. -/
theorem dst_eq (X : Valuation τ sig (Elt Ideal)) : StableHlo.after hostOps0 X (Proc.devRef .tc main_v3) = dstOf (X (Proc.devRef .tc main_arg1)) := by
  after_results
  rfl

end Cert.Edges
-- ==== Proof.Value.lean ====
/- The array the kernel returns, as a function of its arguments: the two layers and the final map of the common form. -/
module

public import proofs.«01_k».proof.Proof.Regions
public import proofs.«01_k».proof.Proof.Edges

@[expose] public section

set_option maxRecDepth 16384

noncomputable section

namespace Cert.Value

open Idealize.ShloMosaic Idealize.ShloMosaic.TcCoe Idealize.SL.Sem
open Cert.KernelIdeal Cert.KernelIdeal.Gen Cert.Spec Cert.Regions Cert.Edges

/-- Reading a column of the score table gives that head's score. -/
theorem scoreArr_at (x : Feat) (W : FVec Ideal S128x512 .f32) (a : Att) (n : Fin 10000) (h : Fin 4) :
    scoreArr x W a (ix2 n (h.castLE (by decide))) = score (proj x W) a n h := dif_pos h.isLt

/-- Projection, edge stage and batch norm are one layer of the common form. -/
theorem layer_eq (w : Weights) (src dst : Ends) (x : Feat) :
    postArr w.b w.γ w.β (edge (featArr x w.W) (scoreArr x w.W w.aSrc) (scoreArr x w.W w.aDst) src dst) = layer w src dst x := by
  funext j
  idx_vars j
  rw [postArr, edge_at]
  simp only [scoreArr_at]
  rfl

variable (m : (ℓ : Loc nD τ sig) → Buf (Elt Ideal) ℓ) (ρ : Dev nD → PrngReg)

/-- The first layer's weights among the arguments. -/
def w1 (c : Dev nD) : Weights where
  W := m ((c : Thread nD τ).loc main_arg2)
  aSrc := m ((c : Thread nD τ).loc main_arg3)
  aDst := m ((c : Thread nD τ).loc main_arg4)
  b := m ((c : Thread nD τ).loc main_arg5)
  γ := m ((c : Thread nD τ).loc main_arg6)
  β := m ((c : Thread nD τ).loc main_arg7)

/-- The second layer's weights among the arguments. -/
def w2 (c : Dev nD) : Weights where
  W := m ((c : Thread nD τ).loc main_arg8)
  aSrc := m ((c : Thread nD τ).loc main_arg9)
  aDst := m ((c : Thread nD τ).loc main_arg10)
  b := m ((c : Thread nD τ).loc main_arg11)
  γ := m ((c : Thread nD τ).loc main_arg12)
  β := m ((c : Thread nD τ).loc main_arg13)

/-- The edges' sources among the arguments. -/
def src (c : Dev nD) : Ends := srcOf (m ((c : Thread nD τ).loc main_arg1))

/-- The edges' targets among the arguments. -/
def dst (c : Dev nD) : Ends := dstOf (m ((c : Thread nD τ).loc main_arg1))

/-- The sources as the first edge stage finds them. -/
theorem src_in1 (c : Dev nD) : W2 m ρ c (Proc.devRef .tc main_v1) = src m c :=
  (W2_of m ρ c main_v1 (by decide)).trans (src_eq _)

/-- The targets as the first edge stage finds them. -/
theorem dst_in1 (c : Dev nD) : W2 m ρ c (Proc.devRef .tc main_v3) = dst m c :=
  (W2_of m ρ c main_v3 (by decide)).trans (dst_eq _)

/-- The sources as the second edge stage finds them. -/
theorem src_in2 (c : Dev nD) : W7 m ρ c (Proc.devRef .tc main_v1) = src m c := by
  rw [W7_of m ρ c main_v1 (by decide), W6_of m ρ c main_v1 (by decide), W5_of m ρ c main_v1 (by decide), W4_of m ρ c main_v1 (by decide),
    W3_of m ρ c main_v1 (by decide), src_in1]

/-- The targets as the second edge stage finds them. -/
theorem dst_in2 (c : Dev nD) : W7 m ρ c (Proc.devRef .tc main_v3) = dst m c := by
  rw [W7_of m ρ c main_v3 (by decide), W6_of m ρ c main_v3 (by decide), W5_of m ρ c main_v3 (by decide), W4_of m ρ c main_v3 (by decide),
    W3_of m ρ c main_v3 (by decide), dst_in1]

/-- What the first layer leaves. -/
theorem layer1 (c : Dev nD) : W6 m ρ c (Proc.devRef .tc main_v55) = layer (w1 m c) (src m c) (dst m c) (m ((c : Thread nD τ).loc main_arg0)) := by
  have hf : W2 m ρ c (Proc.devRef .tc main_v4_0) = featArr (m ((c : Thread nD τ).loc main_arg0)) (w1 m c).W := by
    refine (W2_arr m ρ c 4).trans ((feat1 (V1 m ρ) c).trans ?_)
    rw [show V1 m ρ c main_arg0 = _ from W1_args m ρ c main_arg0 (by decide), show V1 m ρ c main_arg2 = _ from W1_args m ρ c main_arg2 (by decide)]
    rfl
  have hs : W2 m ρ c (Proc.devRef .tc main_v4_1) = scoreArr (m ((c : Thread nD τ).loc main_arg0)) (w1 m c).W (w1 m c).aSrc := by
    refine (W2_arr m ρ c 5).trans ((src1 (V1 m ρ) c).trans ?_)
    rw [show V1 m ρ c main_arg0 = _ from W1_args m ρ c main_arg0 (by decide), show V1 m ρ c main_arg2 = _ from W1_args m ρ c main_arg2 (by decide),
      show V1 m ρ c main_arg3 = _ from W1_args m ρ c main_arg3 (by decide)]
    rfl
  have hd : W2 m ρ c (Proc.devRef .tc main_v4_2) = scoreArr (m ((c : Thread nD τ).loc main_arg0)) (w1 m c).W (w1 m c).aDst := by
    refine (W2_arr m ρ c 6).trans ((dst1 (V1 m ρ) c).trans ?_)
    rw [show V1 m ρ c main_arg0 = _ from W1_args m ρ c main_arg0 (by decide), show V1 m ρ c main_arg2 = _ from W1_args m ρ c main_arg2 (by decide),
      show V1 m ρ c main_arg4 = _ from W1_args m ρ c main_arg4 (by decide)]
    rfl
  have he := stretch1 (W2 m ρ c)
  rw [hf, hs, hd, src_in1, dst_in1] at he
  refine (W6_arr m ρ c 4).trans ((norm1 (V5 m ρ) c).trans ?_)
  rw [show V5 m ρ c main_v54 = _ from he, show V5 m ρ c main_arg5 = _ from W5_args m ρ c main_arg5 (by decide),
    show V5 m ρ c main_arg6 = _ from W5_args m ρ c main_arg6 (by decide), show V5 m ρ c main_arg7 = _ from W5_args m ρ c main_arg7 (by decide)]
  exact layer_eq (w1 m c) _ _ _

/-- What the second layer leaves. -/
theorem layer2 (c : Dev nD) : W11 m ρ c (Proc.devRef .tc main_v107)
    = layer (w2 m c) (src m c) (dst m c) (layer (w1 m c) (src m c) (dst m c) (m ((c : Thread nD τ).loc main_arg0))) := by
  have hx : V6 m ρ c main_v55 = _ := layer1 m ρ c
  have hW : V6 m ρ c main_arg8 = _ := W6_args m ρ c main_arg8 (by decide)
  have hf := (W7_arr m ρ c 4).trans (feat2 (V6 m ρ) c)
  have hs := (W7_arr m ρ c 5).trans (src2 (V6 m ρ) c)
  have hd := (W7_arr m ρ c 6).trans (dst2 (V6 m ρ) c)
  rw [hx, hW] at hf hs hd
  rw [show V6 m ρ c main_arg9 = _ from W6_args m ρ c main_arg9 (by decide)] at hs
  rw [show V6 m ρ c main_arg10 = _ from W6_args m ρ c main_arg10 (by decide)] at hd
  have he := stretch2 (W7 m ρ c)
  rw [show W7 m ρ c (Proc.devRef .tc main_v56_0) = _ from hf, show W7 m ρ c (Proc.devRef .tc main_v56_1) = _ from hs,
    show W7 m ρ c (Proc.devRef .tc main_v56_2) = _ from hd, src_in2, dst_in2] at he
  refine (W11_arr m ρ c 4).trans ((norm2 (V10 m ρ) c).trans ?_)
  rw [show V10 m ρ c main_v106 = _ from he, show V10 m ρ c main_arg11 = _ from W10_args m ρ c main_arg11 (by decide),
    show V10 m ρ c main_arg12 = _ from W10_args m ρ c main_arg12 (by decide), show V10 m ρ c main_arg13 = _ from W10_args m ρ c main_arg13 (by decide)]
  exact layer_eq (w2 m c) _ _ _

/-- The network of the common form on the kernel's arguments. -/
def net (c : Dev nD) : Feat :=
  Spec.final (m ((c : Thread nD τ).loc main_arg14)) (m ((c : Thread nD τ).loc main_arg15))
    (layer (w2 m c) (src m c) (dst m c) (layer (w1 m c) (src m c) (dst m c) (m ((c : Thread nD τ).loc main_arg0))))

/-- The kernel's result. -/
theorem result (c : Dev nD) : W12 m ρ c (Proc.devRef .tc main_v108) = net m c := by
  refine (W12_arr m ρ c 3).trans ((final_out (V11 m ρ) c).trans ?_)
  rw [show V11 m ρ c main_v107 = _ from layer2 m ρ c, show V11 m ρ c main_arg14 = _ from W11_args m ρ c main_arg14 (by decide),
    show V11 m ρ c main_arg15 = _ from W11_args m ρ c main_arg15 (by decide)]
  rfl

end Cert.Value
-- ==== Proof.Shift.lean ====
/- Subtracting a finite number from every logit that shares a target does not change the attention coefficients: over the
   extended reals the factor it puts on the weights and on their total cancels. -/
module

public import proofs.«01_k».proof.Proof.Spec

@[expose] public section

noncomputable section

namespace Cert.Shift

open Idealize.ShloMosaic Cert.Rows Cert.Spec

/-- The exponential of a difference with a real number, for any extended real: a positive factor. -/
theorem exp_sub (a : EReal) (r : ℝ) : Ideal.exp (a - r) = Ideal.exp a * ((Real.exp (-r) : ℝ) : EReal) := by
  induction a with
  | bot => simp
  | top => simp [EReal.top_mul_coe_of_pos (Real.exp_pos (-r))]
  | coe x => rw [← EReal.coe_sub, Ideal.exp_coe, Ideal.exp_coe, ← EReal.coe_mul, ← Real.exp_add, sub_eq_add_neg]

/-- An exponential is not negative. -/
theorem exp_nonneg (a : EReal) : 0 ≤ Ideal.exp a := by
  induction a with
  | bot => simp
  | top => simp
  | coe x => rw [Ideal.exp_coe]; exact_mod_cast (Real.exp_pos x).le

/-- A factor on every term is a factor on the sum, for terms that are not negative. -/
theorem sum_mul_right {ι : Type} (s : Finset ι) (f : ι → EReal) (hf : ∀ i, 0 ≤ f i) (k : EReal) :
    ∑ i ∈ s, f i * k = (∑ i ∈ s, f i) * k := by
  classical
  induction s using Finset.induction_on with
  | empty => simp
  | insert i s hi ih =>
    rw [Finset.sum_insert hi, Finset.sum_insert hi, ih, EReal.right_distrib_of_nonneg (hf i) (Finset.sum_nonneg fun i _ => hf i)]

/-- The same for a sum over the edges into a node. -/
theorem into_mul (dst : Ends) (n : Fin 10000) (f : Fin 320000 → EReal) (hf : ∀ e, 0 ≤ f e) (k : EReal) :
    into dst n (fun e => f e * k) = into dst n f * k := by
  unfold into
  rw [← sum_mul_right _ _ (fun e => by split; exacts [hf e, le_rfl]) k]
  refine Finset.sum_congr rfl fun e _ => ?_
  split <;> simp

/-- A sum over the edges into a node is not negative if its terms are not. -/
theorem into_nonneg (dst : Ends) (n : Fin 10000) (f : Fin 320000 → EReal) (hf : ∀ e, 0 ≤ f e) : 0 ≤ into dst n f :=
  Finset.sum_nonneg fun e _ => by split; exacts [hf e, le_rfl]

/-- A positive real factor on both sides of a quotient cancels, unless the divisor is zero. -/
theorem div_mul_mul (x y : EReal) (hy : y ≠ 0) {r : ℝ} (hr : 0 < r) : Ideal.div (x * r) (y * r) = Ideal.div x y := by
  have hr' : (r : EReal) ≠ 0 := by exact_mod_cast hr.ne'
  have hyr : y * (r : EReal) ≠ 0 := mul_ne_zero hy hr'
  have hc : (r : EReal) * (r : EReal)⁻¹ = 1 := by rw [← EReal.coe_inv, ← EReal.coe_mul, mul_inv_cancel₀ hr.ne', EReal.coe_one]
  rw [Ideal.div, Ideal.div, if_neg hyr, if_neg hy, EReal.mul_inv, mul_mul_mul_comm, hc, mul_one]

/-- An edge that counts towards a node reads that node's row. -/
theorem node_of_toInt (w : BitVec 32) (n : Fin 10000) (h : w.toInt = (n.val : Int)) : node w = n := by
  have hw : wrap w = w := by
    have : ¬ w.toInt < 0 := by omega
    simp [wrap, Scalar.select, IntOp.cmpi, BitVec.slt, this]
  apply Fin.ext
  simp only [node, rowAt, hw, h]
  omega

/-- The attention coefficient of logits `l` from which a number per node and head, `t`, is subtracted first, with the
    guard brought to the same scale. -/
def shifted (l : Fin 320000 → Fin 4 → EReal) (t : Fin 10000 → Fin 4 → EReal) (dst : Ends) (e : Fin 320000) (h : Fin 4) : EReal :=
  Ideal.div (Ideal.exp (l e h - t (node (dst (ix1 e))) h))
    (into dst (node (dst (ix1 e))) (fun e' => Ideal.exp (l e' h - t (node (dst (ix1 e'))) h))
      + Ideal.ofBits .f32 0x24E69595#32 * Ideal.exp (-t (node (dst (ix1 e))) h))

/-- The guard is positive. -/
theorem guard_pos : (0 : EReal) < Ideal.ofBits .f32 0x24E69595#32 := by
  simp [Ideal.ofBits, Ideal.ieee, -EReal.coe_mul]

/-- If the numbers subtracted are finite, the coefficients are those without the subtraction. -/
theorem shifted_eq (s d : Fin 10000 → Fin 4 → EReal) (src dst : Ends) (t : Fin 10000 → Fin 4 → EReal)
    (ht : ∀ n h, ∃ r : ℝ, t n h = r) (e : Fin 320000) (h : Fin 4) :
    shifted (logit s d src dst) t dst e h = coef s d src dst e h := by
  obtain ⟨r, hr⟩ := ht (node (dst (ix1 e))) h
  have hinto : into dst (node (dst (ix1 e))) (fun e' => Ideal.exp (logit s d src dst e' h - t (node (dst (ix1 e'))) h))
      = total s d src dst (node (dst (ix1 e))) h * ((Real.exp (-r) : ℝ) : EReal) := by
    rw [total, ← into_mul _ _ _ fun e' => exp_nonneg _]
    refine Finset.sum_congr rfl fun e' _ => ?_
    split
    · next he => beta_reduce; rw [node_of_toInt _ _ he, hr, exp_sub]
    · rfl
  have htot : 0 ≤ total s d src dst (node (dst (ix1 e))) h := into_nonneg _ _ _ fun e' => exp_nonneg _
  rw [shifted, hinto, hr, exp_sub, ← EReal.coe_neg, Ideal.exp_coe, ← EReal.right_distrib_of_nonneg htot guard_pos.le,
    div_mul_mul _ _ (guard_pos.trans_le (le_add_of_nonneg_left htot)).ne' (Real.exp_pos _), coef]

end Cert.Shift
-- ==== Proof.RefLayer.lean ====
/- The reference's layer, from its printed operations, read entry by entry: it is the layer of the common form. -/
module

public import proofs.«01_k».proof.Proof.Shift
public import proofs.«01_k».proof.Proof.Consts
public import proofs.«01_k».proof.Proof.Gen.ReferenceIdeal.Run

@[expose] public section

set_option maxRecDepth 16384

noncomputable section

namespace Cert.RefLayer

open Idealize.ShloMosaic Cert.ReferenceIdeal Cert.ReferenceIdeal.Facts₀ Cert.ReferenceIdeal.Facts Cert.Rows Cert.Spec

variable [Cert.ReferenceIdeal.Facts]

/-- `(x @ W).reshape(-1, 4, 128)`. -/
def heads (x : FVec Ideal S10000x128 .f32) (W : FVec Ideal S128x512 .f32) : FVec Ideal S10000x4x128 .f32 :=
  shapeCast _ (Host.dotGeneral dot_S10000x128_S128x512_S10000x512_1_0_0_1_n_n none x W) shapeCasts_S10000x512_S10000x4x128

/-- The projected features at a node, head and feature. -/
theorem heads_at (x : FVec Ideal S10000x128 .f32) (W : FVec Ideal S128x512 .f32) (n : Fin 10000) (h : Fin 4) (c : Fin 128) :
    heads x W (ix3 n h c) = proj x W n h c := by
  pointwise [heads, proj, col]

/-- `sum(h * att[None, :, :], axis=-1)`. -/
def scores (p : FVec Ideal S10000x4x128 .f32) (a : FVec Ideal S4x128 .f32) : FVec Ideal S10000x4 .f32 :=
  Host.reduceAdd (mulf p (broadcastInDim S10000x4x128 ![0, 1, 2] bcast_S1x4x128_S10000x4x128_0_1_2 (broadcastInDim S1x4x128 ![1, 2] bcast_S4x128_S1x4x128_1_2 a))) (constant S_ .f32 0x00000000#32) reducesTo_S10000x4x128_S10000x4_d2 h_S_

/-- A score at a node and head. -/
theorem scores_at (p : FVec Ideal S10000x4x128 .f32) (a : FVec Ideal S4x128 .f32) (n : Fin 10000) (h : Fin 4) :
    scores p a (ix2 n h) = score (fun n h c => p (ix3 n h c)) a n h := by
  pointwise [scores, score]

/-- The row numbers `table[i]` reads, one per edge. -/
def rows (i : IVec S320000 32) : IVec S320000x1 32 :=
  broadcastInDim S320000x1 ![0] bcast_S320000_S320000x1_0 (select (cmpi .slt i (broadcastInDim S320000 ![] bcast_S_S320000 (constantI S_ 32 0#32))) (addi i (broadcastInDim S320000 ![] bcast_S_S320000 (constantI S_ 32 10000#32))) i)

/-- The row number of edge `e`. -/
theorem rows_at (i : IVec S320000 32) (e : Fin 320000) : rows i (ix2 e 0) = wrap (i (ix1 e)) := by
  pointwise [rows, wrap]

/-- The sum of the two ends' scores, one per edge and head. -/
def sums (s d : FVec Ideal S10000x4 .f32) (src dst : IVec S320000 32) : FVec Ideal S320000x4 .f32 :=
  addf (Host.gather gather_S10000x4_S320000x1_S320000x4_1_0_n_n_0_1_14 s (rows src)) (Host.gather gather_S10000x4_S320000x1_S320000x4_1_0_n_n_0_1_14 d (rows dst))

/-- The leaky rectifier. -/
def logits (z : FVec Ideal S320000x4 .f32) : FVec Ideal S320000x4 .f32 :=
  select (cmpf .oge z (broadcastInDim S320000x4 ![] bcast_S_S320000x4 (constant S_ .f32 0x00000000#32))) z (mulf (broadcastInDim S320000x4 ![] bcast_S_S320000x4 (id (constant S_ .f32 0x3E4CCCCD#32))) z)

/-- An edge's logit. -/
theorem logits_at (s d : FVec Ideal S10000x4 .f32) (src dst : IVec S320000 32) (e : Fin 320000) (h : Fin 4) :
    logits (sums s d src dst) (ix2 e h) = logit (fun n h => s (ix2 n h)) (fun n h => d (ix2 n h)) src dst e h := by
  have hs : sums s d src dst (ix2 e h) = s (ix2 (node (src (ix1 e))) h) + d (ix2 (node (dst (ix1 e))) h) := by
    pointwise [sums]
    rw [show Host.gather gather_S10000x4_S320000x1_S320000x4_1_0_n_n_0_1_14 s (rows src) (ix2 e h) = _ from take2_at _ s (rows src) e h,
      show Host.gather gather_S10000x4_S320000x1_S320000x4_1_0_n_n_0_1_14 d (rows dst) (ix2 e h) = _ from take2_at _ d (rows dst) e h, rows_at, rows_at]
    rfl
  pointwise [logits, logit, leaky, hs]
  rfl

/-- The segment maximum: for each node the largest logit of the edges that point to it, `-inf` if there are none. -/
def maxima (l : FVec Ideal S320000x4 .f32) (dst : IVec S320000 32) : FVec Ideal S10000x4 .f32 :=
  Host.reduce FloatOps.maximumf (select (broadcastInDim S10000x320000x4 ![0, 1, 2] bcast_S10000x320000x1_S10000x320000x4_0_1_2 (broadcastInDim S10000x320000x1 ![0, 1] bcast_S10000x320000_S10000x320000x1_0_1 (cmpi .eq (broadcastInDim S10000x320000 ![0, 1] bcast_S1x320000_S10000x320000_0_1 (broadcastInDim S1x320000 ![1] bcast_S320000_S1x320000_1 dst)) (broadcastInDim S10000x320000 ![0, 1] bcast_S10000x1_S10000x320000_0_1 (broadcastInDim S10000x1 ![0] bcast_S10000_S10000x1_0 (iotaInDim S10000 32 0)))))) (broadcastInDim S10000x320000x4 ![0, 1, 2] bcast_S1x320000x4_S10000x320000x4_0_1_2 (broadcastInDim S1x320000x4 ![1, 2] bcast_S320000x4_S1x320000x4_1_2 l)) (broadcastInDim S10000x320000x4 ![] bcast_S_S10000x320000x4 (id (constant S_ .f32 0xFF800000#32)))) (constant S_ .f32 0xFF800000#32) reducesTo_S10000x320000x4_S10000x4_d1 h_S_

/-- A table with zero in place of what is not finite. -/
def finite (a : FVec Ideal S10000x4 .f32) : FVec Ideal S10000x4 .f32 :=
  select (cmpf .olt (Host.absf a) (broadcastInDim S10000x4 ![] bcast_S_S10000x4 (constant S_ .f32 0x7F800000#32))) a (broadcastInDim S10000x4 ![] bcast_S_S10000x4 (id (constant S_ .f32 0x00000000#32)))

/-- Its entries are real numbers. -/
theorem finite_at (a : FVec Ideal S10000x4 .f32) (n : Fin 10000) (h : Fin 4) : ∃ r : ℝ, finite a (ix2 n h) = (r : EReal) := by
  pointwise [finite]
  rw [Consts.ofBits_inf]
  split
  · next hlt => exact Consts.real_of_abs_lt _ hlt
  · exact ⟨0, Ideal.ofBits_zero_f32⟩

/-- The weights: the exponential of each logit less its target's entry of `t`. -/
def weights (l : FVec Ideal S320000x4 .f32) (t : FVec Ideal S10000x4 .f32) (dst : IVec S320000 32) : FVec Ideal S320000x4 .f32 :=
  Host.exp (subf l (Host.gather gather_S10000x4_S320000x1_S320000x4_1_0_n_n_0_1_14 t (rows dst)))

/-- An edge's weight. -/
theorem weights_at (l : FVec Ideal S320000x4 .f32) (t : FVec Ideal S10000x4 .f32) (dst : IVec S320000 32) (e : Fin 320000) (h : Fin 4) :
    weights l t dst (ix2 e h) = Ideal.exp (l (ix2 e h) - t (ix2 (node (dst (ix1 e))) h)) := by
  pointwise [weights]
  rw [show Host.gather gather_S10000x4_S320000x1_S320000x4_1_0_n_n_0_1_14 t (rows dst) (ix2 e h) = _ from take2_at _ t (rows dst) e h, rows_at]
  rfl

/-- The attention coefficients: `ex / (segment_sum(ex, dst)[dst] + 1e-16 * exp(-t[dst]))`. -/
def coefs (w : FVec Ideal S320000x4 .f32) (t : FVec Ideal S10000x4 .f32) (dst : IVec S320000 32) : FVec Ideal S320000x4 .f32 :=
  Host.divf w (addf (Host.gather gather_S10000x4_S320000x1_S320000x4_1_0_n_n_0_1_14 (Host.scatterAdd scatter_S10000x4_S320000x1_S320000x4_1_0_0_1 (broadcastInDim S10000x4 ![] bcast_S_S10000x4 (constant S_ .f32 0x00000000#32)) (broadcastInDim S320000x1 ![0] bcast_S320000_S320000x1_0 dst) w) (rows dst)) (mulf (broadcastInDim S320000x4 ![] bcast_S_S320000x4 (constant S_ .f32 0x24E69595#32)) (Host.exp (Host.negf (Host.gather gather_S10000x4_S320000x1_S320000x4_1_0_n_n_0_1_14 t (rows dst))))))

/-- A coefficient at an edge and head. -/
theorem coefs_at (w : FVec Ideal S320000x4 .f32) (t : FVec Ideal S10000x4 .f32) (dst : IVec S320000 32) (e : Fin 320000) (h : Fin 4) :
    coefs w t dst (ix2 e h) = Ideal.div (w (ix2 e h)) (into dst (node (dst (ix1 e))) (fun e' => w (ix2 e' h)) + Ideal.ofBits .f32 0x24E69595#32 * Ideal.exp (-t (ix2 (node (dst (ix1 e))) h))) := by
  pointwise [coefs]
  rw [show Host.gather gather_S10000x4_S320000x1_S320000x4_1_0_n_n_0_1_14 t (rows dst) (ix2 e h) = _ from take2_at _ t (rows dst) e h,
    show Host.gather gather_S10000x4_S320000x1_S320000x4_1_0_n_n_0_1_14 _ (rows dst) (ix2 e h) = _ from take2_at _ _ (rows dst) e h, rows_at,
    show Host.scatterAdd scatter_S10000x4_S320000x1_S320000x4_1_0_0_1 _ _ w (ix2 _ h) = _ from add2_at _ _ _ w _ h]
  pointwise [into, node]

/-- The attention coefficients from the logits. -/
def attention (l : FVec Ideal S320000x4 .f32) (dst : IVec S320000 32) : FVec Ideal S320000x4 .f32 :=
  coefs (weights l (finite (maxima l dst)) dst) (finite (maxima l dst)) dst

/-- Whatever the maxima are, a coefficient is that of the common form. -/
theorem attention_at (s d : FVec Ideal S10000x4 .f32) (src dst : IVec S320000 32) (e : Fin 320000) (h : Fin 4) :
    attention (logits (sums s d src dst)) dst (ix2 e h) = coef (fun n h => s (ix2 n h)) (fun n h => d (ix2 n h)) src dst e h := by
  rw [attention, coefs_at, ← Shift.shifted_eq _ _ src dst _ (finite_at (maxima (logits (sums s d src dst)) dst))]
  simp only [weights_at, logits_at, Shift.shifted]

/-- The messages: `segment_sum(h[src] * attn[:, :, None], dst)` summed over the heads. -/
def messages (p : FVec Ideal S10000x4x128 .f32) (q : FVec Ideal S320000x4 .f32) (src dst : IVec S320000 32) : FVec Ideal S10000x128 .f32 :=
  Host.reduceAdd (Host.scatterAdd scatter_S10000x4x128_S320000x1_S320000x4x128_12_0_0_1 (broadcastInDim S10000x4x128 ![] bcast_S_S10000x4x128 (constant S_ .f32 0x00000000#32)) (broadcastInDim S320000x1 ![0] bcast_S320000_S320000x1_0 dst) (mulf (Host.gather gather_S10000x4x128_S320000x1_S320000x4x128_12_0_n_n_0_1_14128 p (rows src)) (broadcastInDim S320000x4x128 ![0, 1, 2] bcast_S320000x4x1_S320000x4x128_0_1_2 (broadcastInDim S320000x4x1 ![0, 1] bcast_S320000x4_S320000x4x1_0_1 q)))) (constant S_ .f32 0x00000000#32) reducesTo_S10000x4x128_S10000x128_d1 h_S_

/-- The messages at a node and feature. -/
theorem messages_at (p : FVec Ideal S10000x4x128 .f32) (q : FVec Ideal S320000x4 .f32) (src dst : IVec S320000 32) (n : Fin 10000) (c : Fin 128) :
    messages p q src dst (ix2 n c) = gathered (fun n h c => p (ix3 n h c)) (fun e h => q (ix2 e h)) src dst n c := by
  pointwise [messages, gathered]
  refine Finset.sum_congr rfl fun h _ => ?_
  rw [show Host.scatterAdd scatter_S10000x4x128_S320000x1_S320000x4x128_12_0_0_1 _ _ _ (ix3 n h c) = _ from add3_at _ _ _ _ n h c]
  pointwise [into, node]
  refine Finset.sum_congr rfl fun e _ => ?_
  rw [show Host.gather gather_S10000x4x128_S320000x1_S320000x4x128_12_0_n_n_0_1_14128 p (rows src) (ix3 e h c) = _ from take3_at _ p (rows src) e h c, rows_at]

/-- Mean over the heads, bias, batch norm, rectifier. -/
def posts (g : FVec Ideal S10000x128 .f32) (b γ β : FVec Ideal S128 .f32) : FVec Ideal S10000x128 .f32 :=
  maximumf (addf (mulf (Host.divf (addf (Host.divf g (broadcastInDim S10000x128 ![] bcast_S_S10000x128 (constant S_ .f32 0x40800000#32))) (broadcastInDim S10000x128 ![0, 1] bcast_S1x128_S10000x128_0_1 (broadcastInDim S1x128 ![1] bcast_S128_S1x128_1 b))) (broadcastInDim S10000x128 ![] bcast_S_S10000x128 (id (Host.sqrt (constant S_ .f32 0x3F800054#32))))) (broadcastInDim S10000x128 ![0, 1] bcast_S1x128_S10000x128_0_1 (broadcastInDim S1x128 ![1] bcast_S128_S1x128_1 γ))) (broadcastInDim S10000x128 ![0, 1] bcast_S1x128_S10000x128_0_1 (broadcastInDim S1x128 ![1] bcast_S128_S1x128_1 β))) (broadcastInDim S10000x128 ![] bcast_S_S10000x128 (constant S_ .f32 0x00000000#32))

/-- The same at a node and feature. -/
theorem posts_at (g : FVec Ideal S10000x128 .f32) (b γ β : FVec Ideal S128 .f32) (n : Fin 10000) (c : Fin 128) :
    posts g b γ β (ix2 n c) = Spec.post b γ β (g (ix2 n c)) c := by
  pointwise [posts, Spec.post]
  rw [Consts.ofBits_four, Ideal.div_coe (by norm_num), show id (Host.sqrt (constant (F := Ideal) S_ .f32 0x3F800054#32)) ix0 = _ from Consts.sqrt_var, Ideal.div_coe Consts.root_ne_zero, one_div (Real.sqrt _)]

/-- The reference's layer. -/
def refLayer (w : Weights) (src dst : IVec S320000 32) (x : FVec Ideal S10000x128 .f32) : FVec Ideal S10000x128 .f32 :=
  posts (messages (heads x w.W) (attention (logits (sums (scores (heads x w.W) w.aSrc) (scores (heads x w.W) w.aDst) src dst)) dst) src dst) w.b w.γ w.β

/-- The reference's layer is the layer of the common form. -/
theorem refLayer_eq (w : Weights) (src dst : IVec S320000 32) (x : FVec Ideal S10000x128 .f32) : refLayer w src dst x = layer w src dst x := by
  funext j
  idx_vars j
  rw [refLayer, posts_at, messages_at]
  simp only [attention_at, scores_at, heads_at]
  rfl

/-- The reference's final linear map. -/
def refFinal (Wf : FVec Ideal S128x128 .f32) (bf : FVec Ideal S128 .f32) (y : FVec Ideal S10000x128 .f32) : FVec Ideal S10000x128 .f32 :=
  addf (Host.dotGeneral dot_S10000x128_S128x128_S10000x128_1_0_0_1_n_n none y Wf) (broadcastInDim S10000x128 ![0, 1] bcast_S1x128_S10000x128_0_1 (broadcastInDim S1x128 ![1] bcast_S128_S1x128_1 bf))

/-- It is the final linear map of the common form. -/
theorem refFinal_eq (Wf : FVec Ideal S128x128 .f32) (bf : FVec Ideal S128 .f32) (y : FVec Ideal S10000x128 .f32) : refFinal Wf bf y = final Wf bf y := by
  funext j
  pointwise! [refFinal, final]

end Cert.RefLayer
-- ==== Proof.RefValue.lean ====
/- The array the reference returns, as a function of its arguments: the two layers and the final map of the common form. -/
module

public import proofs.«01_k».proof.Proof.RefLayer

@[expose] public section

set_option maxRecDepth 16384

noncomputable section

namespace Cert.RefValue

open Idealize.ShloMosaic Idealize.ShloMosaic.TcCoe Idealize.SL.Sem
open Cert.ReferenceIdeal Cert.ReferenceIdeal.Gen Cert.Spec Cert.RefLayer

/-- Row 0 of the edge list: the sources. -/
def srcOf (i : IVec S2x320000 32) : IVec S320000 32 :=
  shapeCast S320000 (extractStridedSlice S1x320000 ![0, 0] i slices_S2x320000_S1x320000_0_0) shapeCasts_S1x320000_S320000

/-- Row 1 of the edge list: the targets. -/
def dstOf (i : IVec S2x320000 32) : IVec S320000 32 :=
  shapeCast S320000 (extractStridedSlice S1x320000 ![1, 0] i slices_S2x320000_S1x320000_1_0) shapeCasts_S1x320000_S320000

variable (m : (ℓ : Loc nD τ sig) → Buf (Elt Ideal) ℓ) (ρ : Dev nD → PrngReg)

/-- The first layer's weights among the arguments. -/
def w1 (c : Dev nD) : Weights where
  W := m ((c : Thread nD τ).loc main_arg2)
  aSrc := m ((c : Thread nD τ).loc main_arg3)
  aDst := m ((c : Thread nD τ).loc main_arg4)
  b := m ((c : Thread nD τ).loc main_arg5)
  γ := m ((c : Thread nD τ).loc main_arg6)
  β := m ((c : Thread nD τ).loc main_arg7)

/-- The second layer's weights among the arguments. -/
def w2 (c : Dev nD) : Weights where
  W := m ((c : Thread nD τ).loc main_arg8)
  aSrc := m ((c : Thread nD τ).loc main_arg9)
  aDst := m ((c : Thread nD τ).loc main_arg10)
  b := m ((c : Thread nD τ).loc main_arg11)
  γ := m ((c : Thread nD τ).loc main_arg12)
  β := m ((c : Thread nD τ).loc main_arg13)

/-- The edges' sources among the arguments. -/
def src (c : Dev nD) : Ends := srcOf (m ((c : Thread nD τ).loc main_arg1))

/-- The edges' targets among the arguments. -/
def dst (c : Dev nD) : Ends := dstOf (m ((c : Thread nD τ).loc main_arg1))

/-- The network of the common form on the reference's arguments. -/
def net (c : Dev nD) : Feat :=
  Spec.final (m ((c : Thread nD τ).loc main_arg14)) (m ((c : Thread nD τ).loc main_arg15))
    (layer (w2 m c) (src m c) (dst m c) (layer (w1 m c) (src m c) (dst m c) (m ((c : Thread nD τ).loc main_arg0))))

/-- The reference's composed operations on its arguments. -/
def composed (c : Dev nD) : Feat :=
  refFinal (m ((c : Thread nD τ).loc main_arg14)) (m ((c : Thread nD τ).loc main_arg15))
    (refLayer (w2 m c) (src m c) (dst m c) (refLayer (w1 m c) (src m c) (dst m c) (m ((c : Thread nD τ).loc main_arg0))))

/-- They compute the network of the common form. -/
theorem composed_eq (c : Dev nD) : composed m c = net m c := by
  rw [composed, refFinal_eq, refLayer_eq, refLayer_eq, net]

/-- The reference's run. -/
theorem run : θ_run defs (onTc (τ := τ) (main (F := Ideal))) ⟨m, fun _ => 0, ρ⟩ fun r => ∀ c : Dev nD,
    r.2.mem ((c.tc : Thread nD τ).loc main_v215) = net m c ∧
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (Eq.trans (by rfl) (composed_eq m c)), (h c).2⟩) (Cert.ReferenceIdeal.Value.run (F := Ideal) m ρ)

end Cert.RefValue
-- ==== Proof.lean ====
module

public import proofs.«01_k».proof.Defs
public import proofs.«01_k».proof.Proof.Gen.Kernel.Frame
public import proofs.«01_k».proof.Proof.Run
public import proofs.«01_k».proof.Proof.Value
public import proofs.«01_k».proof.Proof.RefValue
public import Idealize.ShloMosaic.Lib.Quiescent

@[expose] public section

noncomputable section

namespace Cert.Proof

open Idealize.ShloMosaic Idealize.ShloMosaic.TcCoe Idealize.SL.Sem

/-- The kernel on floats runs and leaves its arguments unchanged. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- So does the reference, which has no counters at all. -/
theorem frame_ri : Cert.quiescent_ReferenceIdeal := fun m ρ _ =>
  (θ_run Cert.ReferenceIdeal.defs _ _).mono (fun r h => ⟨fun c => (h c).2, sem_eq_zero_of_no_sems (by decide) r.2⟩) (Cert.RefValue.run m ρ)

/-- The batch norm constant's f32 pattern is the rounding of the real it is named for. -/
theorem preserves : Cert.preserves_Kernel_KernelIdeal :=
  IdealRules.named_const.statement Cert.KernelIdeal.κ "inv_bn" .f32 0x3F7FFFAC#32 (((Real.sqrt (2097173 / 2097152))⁻¹ : ℝ) : EReal) rfl

section Kernel
open Cert.KernelIdeal Cert.KernelIdeal.Gen

/-- The kernel's result and its unchanged arguments, from what its run says of every buffer. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v108) = Cert.Value.net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_v108 (by decide))).trans (Cert.Value.result m ρ c),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c),
    (h c _ (mem_uc main_arg13 (by decide))).trans (W12_main_arg13 m ρ c),
    (h c _ (mem_uc main_arg14 (by decide))).trans (W12_main_arg14 m ρ c),
    (h c _ (mem_uc main_arg15 (by decide))).trans (W12_main_arg15 m ρ c)⟩) (Cert.Run.run m ρ)

end Kernel

/-- From arguments that agree both programs end with the same network's values. -/
theorem algebraic : Cert.algebraic_KernelIdeal_ReferenceIdeal := by
  intro m ρ m' ρ' _ hagree
  refine ⟨fun c => Cert.Value.net m c, kernel_run m ρ, ?_⟩
  refine (θ_run Cert.ReferenceIdeal.defs _ _).mono (fun _ h c => ⟨(h c).1.trans ?_, (h c).2⟩) (Cert.RefValue.run m' ρ')
  obtain ⟨a0, a1, a2, a3, a4, a5, a6, a7, a8, a9, a10, a11, a12, a13, a14, a15⟩ := hagree c
  unfold Cert.RefValue.net Cert.RefValue.w1 Cert.RefValue.w2 Cert.RefValue.src Cert.RefValue.dst
  rw [a0, a1, a2, a3, a4, a5, a6, a7, a8, a9, a10, a11, a12, a13, a14, a15]
  rfl

/-- All claims together. -/
theorem claim : Cert.Claim :=
  ⟨Cert.Kernel.Gen.facts, Cert.KernelIdeal.Gen.facts, Cert.ReferenceIdeal.Gen.facts, frame_p, frame_pi, frame_ri, preserves, algebraic⟩

end Cert.Proof

end
